-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x256x512 : Shape := ⟨4, ![4, 64, 256, 512]⟩
abbrev S4x1x256x512 : Shape := ⟨4, ![4, 1, 256, 512]⟩
abbrev S4x64x4x64x512 : Shape := ⟨5, ![4, 64, 4, 64, 512]⟩
abbrev S4x4x64x512 : Shape := ⟨4, ![4, 4, 64, 512]⟩
abbrev S1x1x64x512 : Shape := ⟨4, ![1, 1, 64, 512]⟩
abbrev S1x64x1x64x512 : Shape := ⟨5, ![1, 64, 1, 64, 512]⟩
abbrev S4x4160x128 : Shape := ⟨3, ![4, 4160, 128]⟩
abbrev S64x64x512 : Shape := ⟨3, ![64, 64, 512]⟩
abbrev S4096x512 : Shape := ⟨2, ![4096, 512]⟩
abbrev S8x128 : Shape := ⟨2, ![8, 128]⟩
abbrev S1x8x128 : Shape := ⟨3, ![1, 8, 128]⟩
abbrev S64x512 : Shape := ⟨2, ![64, 512]⟩
abbrev S512x512 : Shape := ⟨2, ![512, 512]⟩
abbrev S1x512 : Shape := ⟨2, ![1, 512]⟩
abbrev S1x64x128 : Shape := ⟨3, ![1, 64, 128]⟩
abbrev S64x128 : Shape := ⟨2, ![64, 128]⟩
abbrev S1x1x1x64x128 : Shape := ⟨5, ![1, 1, 1, 64, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x64x256x512, .f32⟩
  | .hbm, ⟨1, _⟩ => ⟨S4x1x256x512, .f32⟩
  | .hbm, ⟨2, _⟩ => ⟨S4x64x4x64x512, .f32⟩
  | .hbm, ⟨3, _⟩ => ⟨S4x4x64x512, .f32⟩
  | .hbm, ⟨4, _⟩ => ⟨S4x64x4x64x512, .f32⟩
  | .hbm, ⟨5, _⟩ => ⟨S4x64x256x512, .f32⟩
  | .local _ .vmem, ⟨0, _⟩ => ⟨S1x1x64x512, .f32⟩
  | .local _ .vmem, ⟨1, _⟩ => ⟨S1x1x64x512, .f32⟩
  | .local _ .vmem, ⟨2, _⟩ => ⟨S1x64x1x64x512, .f32⟩
  | .local _ .vmem, ⟨3, _⟩ => ⟨S1x64x1x64x512, .f32⟩
  | .local _ .vmem, ⟨4, _⟩ => ⟨S1x64x1x64x512, .f32⟩
  | .local _ .vmem, ⟨5, _⟩ => ⟨S1x64x1x64x512, .f32⟩
  | .local _ .vmem, ⟨6, _⟩ => ⟨S4x4160x128, .f32⟩
  | .local _ .vmem, ⟨7, _⟩ => ⟨S4x4160x128, .f32⟩
  | _, _ => ⟨S4x64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x64x256x512 : Shape := ⟨4, ![4, 64, 256, 512]⟩
abbrev S4x1x256x512 : Shape := ⟨4, ![4, 1, 256, 512]⟩
abbrev S4x256x512 : Shape := ⟨3, ![4, 256, 512]⟩
abbrev S512 : Shape := ⟨1, ![512]⟩
abbrev S1x1x512 : Shape := ⟨3, ![1, 1, 512]⟩
abbrev S_ : Shape := ⟨0, ![]⟩
abbrev S4x64x256x512x1 : Shape := ⟨5, ![4, 64, 256, 512, 1]⟩
abbrev S1 : Shape := ⟨1, ![1]⟩
abbrev S1x1x1x1x1 : Shape := ⟨5, ![1, 1, 1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S4x64x256x512, .f32⟩
  | .hbm, ⟨1, _⟩ => ⟨S4x1x256x512, .f32⟩
  | .hbm, ⟨2, _⟩ => ⟨S4x256x512, .f32⟩
  | .hbm, ⟨3, _⟩ => ⟨S512, .f32⟩
  | .hbm, ⟨4, _⟩ => ⟨S1x1x512, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .i1⟩
  | .hbm, ⟨10, _⟩ => ⟨S_, .f32⟩
  | .hbm, ⟨11, _⟩ => ⟨S4x256x512, .f32⟩
  | .hbm, ⟨12, _⟩ => ⟨S4x256x512, .i1⟩
  | .hbm, ⟨13, _⟩ => ⟨S4x256x512, .i1⟩
  | .hbm, ⟨14, _⟩ => ⟨S4x256x512, .f32⟩
  | .hbm, ⟨15, _⟩ => ⟨S4x256x512, .f32⟩
  | .hbm, ⟨16, _⟩ => ⟨S4x256x512, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .i32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | .hbm, ⟨37, _⟩ => ⟨S4x256x512, .i32⟩
  | .hbm, ⟨38, _⟩ => ⟨S4x1x256x512, .i32⟩
  | .hbm, ⟨39, _⟩ => ⟨S4x64x256x512, .i32⟩
  | .hbm, ⟨40, _⟩ => ⟨S4x1x256x512, .i32⟩
  | .hbm, ⟨41, _⟩ => ⟨S4x64x256x512, .i32⟩
  | .hbm, ⟨42, _⟩ => ⟨S_, .i32⟩
  | .hbm, ⟨43, _⟩ => ⟨S4x64x256x512, .i32⟩
  | .hbm, ⟨44, _⟩ => ⟨S4x64x256x512, .i1⟩
  | .hbm, ⟨45, _⟩ => ⟨S_, .i32⟩
  | .hbm, ⟨46, _⟩ => ⟨S4x64x256x512, .i32⟩
  | .hbm, ⟨47, _⟩ => ⟨S4x64x256x512, .i32⟩
  | .hbm, ⟨48, _⟩ => ⟨S4x64x256x512, .i32⟩
  | .hbm, ⟨49, _⟩ => ⟨S4x64x256x512x1, .i32⟩
  | .hbm, ⟨50, _⟩ => ⟨S1, .i32⟩
  | .hbm, ⟨51, _⟩ => ⟨S_, .i32⟩
  | .hbm, ⟨52, _⟩ => ⟨S4x64x256x512x1, .i32⟩
  | .hbm, ⟨53, _⟩ => ⟨S4x64x256x512x1, .i1⟩
  | .hbm, ⟨54, _⟩ => ⟨S1x1x1x1x1, .i32⟩
  | .hbm, ⟨55, _⟩ => ⟨S4x64x256x512x1, .i32⟩
  | .hbm, ⟨56, _⟩ => ⟨S4x64x256x512x1, .i1⟩
  | .hbm, ⟨57, _⟩ => ⟨S4x64x256x512x1, .i1⟩
  | .hbm, ⟨58, _⟩ => ⟨S_, .i1⟩
  | .hbm, ⟨59, _⟩ => ⟨S4x64x256x512, .i1⟩
  | .hbm, ⟨60, _⟩ => ⟨S4x64x256x512, .f32⟩
  | .hbm, ⟨61, _⟩ => ⟨S_, .f32⟩
  | .hbm, ⟨62, _⟩ => ⟨S4x64x256x512, .f32⟩
  | .hbm, ⟨63, _⟩ => ⟨S4x64x256x512, .f32⟩
  | .hbm, ⟨64, _⟩ => ⟨S_, .i32⟩
  | .hbm, ⟨65, _⟩ => ⟨S4x64x256x512, .i32⟩
  | .hbm, ⟨66, _⟩ => ⟨S4x64x256x512, .i1⟩
  | .hbm, ⟨67, _⟩ => ⟨S_, .i32⟩
  | .hbm, ⟨68, _⟩ => ⟨S4x64x256x512, .i32⟩
  | .hbm, ⟨69, _⟩ => ⟨S4x64x256x512, .i32⟩
  | .hbm, ⟨70, _⟩ => ⟨S4x64x256x512, .i32⟩
  | .hbm, ⟨71, _⟩ => ⟨S4x64x256x512x1, .i32⟩
  | .hbm, ⟨72, _⟩ => ⟨S1, .i32⟩
  | .hbm, ⟨73, _⟩ => ⟨S_, .i32⟩
  | .hbm, ⟨74, _⟩ => ⟨S4x64x256x512x1, .i32⟩
  | .hbm, ⟨75, _⟩ => ⟨S4x64x256x512x1, .i1⟩
  | .hbm, ⟨76, _⟩ => ⟨S1x1x1x1x1, .i32⟩
  | .hbm, ⟨77, _⟩ => ⟨S4x64x256x512x1, .i32⟩
  | .hbm, ⟨78, _⟩ => ⟨S4x64x256x512x1, .i1⟩
  | .hbm, ⟨79, _⟩ => ⟨S4x64x256x512x1, .i1⟩
  | .hbm, ⟨80, _⟩ => ⟨S_, .i1⟩
  | .hbm, ⟨81, _⟩ => ⟨S4x64x256x512, .i1⟩
  | .hbm, ⟨82, _⟩ => ⟨S4x64x256x512, .f32⟩
  | .hbm, ⟨83, _⟩ => ⟨S_, .f32⟩
  | .hbm, ⟨84, _⟩ => ⟨S4x64x256x512, .f32⟩
  | .hbm, ⟨85, _⟩ => ⟨S4x64x256x512, .f32⟩
  | .hbm, ⟨86, _⟩ => ⟨S_, .f32⟩
  | .hbm, ⟨87, _⟩ => ⟨S4x256x512, .f32⟩
  | .hbm, ⟨88, _⟩ => ⟨S4x256x512, .f32⟩
  | .hbm, ⟨89, _⟩ => ⟨S4x1x256x512, .f32⟩
  | .hbm, ⟨90, _⟩ => ⟨S4x64x256x512, .f32⟩
  | .hbm, ⟨91, _⟩ => ⟨S4x64x256x512, .f32⟩
  | .hbm, ⟨92, _⟩ => ⟨S4x1x256x512, .f32⟩
  | .hbm, ⟨93, _⟩ => ⟨S4x64x256x512, .f32⟩
  | .hbm, ⟨94, _⟩ => ⟨S4x64x256x512, .f32⟩
  | .hbm, ⟨95, _⟩ => ⟨S4x64x256x512, .f32⟩
  | .hbm, ⟨96, _⟩ => ⟨S4x1x256x512, .f32⟩
  | .hbm, ⟨97, _⟩ => ⟨S4x64x256x512, .f32⟩
  | .hbm, ⟨98, _⟩ => ⟨S4x64x256x512, .f32⟩
  | _, _ => ⟨S4x64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v23 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v24 : Ref sig .tc := ⟨.hbm, 85, rfl⟩
abbrev main_cst_5 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩

abbrev nD : Nat := 1
abbrev τ : Topo := Topo.v7x

variable {F : FTy → Type} [FloatOps F]
-- ==== Proof.Memory.lean ====
/-
  Loads and stores on a buffer that is owned at known values. A load through a rectangle yields the values at the
  rectangle's places; an unmasked store leaves the payload at the rectangle's places and everything else as it was.
-/
module

public import Idealize.ShloMosaic.Lib.Pipeline
public import Idealize.ShloMosaic.Lib.Pipeline.FrameBody
public import Idealize.ShloMosaic.Lib.Updates.Own

@[expose] public section

noncomputable section

namespace Resample

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Val : EltTy → Type} {Λ : Labels}
variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) {Γ : PendingWaitsCtx sig Ix}
variable (E : Set Name) {s : Shape} {e : EltTy} {α : Type}

local notation "𝕄" => MT nD τ sig Ix Val Name U Lvl

/-- A load from a buffer owned at `X` goes on with the values of `X` at the places read, the buffer still owned. -/
theorem load_owned {cs : CoreSpace} {M : Memref sig c.2.kind cs s e} {r : LoadRect s} {hl : M.view.LoadsAt r}
    {k : (r.shape.Idx → Val e) → Prog (TpuEff nD τ sig Val Λ c.2) α} {q : PosShare TreeShare} (X : s.Idx → Val e)
    {K : α → sProp 𝕄} :
    iprop(owns c M q X ∗ (owns c M q X -∗ wp frame (wpE' defs 𝒱 c bd Γ) E (k (fun y => X (r.idx y))) K))
      ⊢ wp frame (wpE' defs 𝒱 c bd Γ) E (.op (.load M r hl) k) K := by
  rw [owns.eq_def c M q X]
  iintro ⟨⟨%f, %hf, H⟩, Hk⟩
  subst hf
  iapply (wp_load 𝒱 c bd E (m := M) (r := r) (S := M.view.set) (by rw [View.set]; exact Finset.map_subset_map.mpr (Finset.subset_univ _))) $$ H
  iintro H
  iapply Hk
  iexists f
  isplitr
  · ipureintro; rfl
  · iexact H

/-- A store into a buffer owned at `X` goes on with the buffer owned at values that are the payload at the places written
    and `X` everywhere else. -/
theorem store_owned {cs : CoreSpace} {M : Memref sig c.2.kind cs s e} {r : Rect s} {w : r.shape.Idx → Val e}
    {hx : (M.access r).Stores Finset.univ} {hm : (Finset.univ : Finset r.shape.Idx) = Finset.univ ∨ ∀ a, r.stride a = 1}
    {k : PUnit → Prog (TpuEff nD τ sig Val Λ c.2) α} (X : s.Idx → Val e) {K : α → sProp 𝕄} :
    iprop(owns c M fullShare X ∗ (∀ Y : s.Idx → Val e, ⌜(∀ z, Y (r.emb z) = w z) ∧ ∀ y, (∀ z, r.emb z ≠ y) → Y y = X y⌝
        -∗ owns c M fullShare Y -∗ wp frame (wpE' defs 𝒱 c bd Γ) E (k ⟨⟩) K))
      ⊢ wp frame (wpE' defs 𝒱 c bd Γ) E (.op (.store M r w Finset.univ hx hm) k) K := by
  rw [owns.eq_def c M fullShare X]
  iintro ⟨⟨%f, %hf, H⟩, Hk⟩
  subst hf
  iapply (wp_store 𝒱 c bd E (m := M) (r := r) (w := w) (hx := hx) (hm := hm) (S := M.view.set)
    (by
      show (M.view.slice r).set ⊆ _
      rw [View.set_slice]; exact Finset.map_subset_map.mpr (Finset.subset_univ _))) $$ H
  iintro H
  iapply Hk $$ %(M.view.read Val ((M.access r).write Val f w Finset.univ))
  · ipureintro
    refine ⟨fun z => View.read_slice_write_emb _ _ _ (Finset.mem_univ z), fun y hy => ?_⟩
    refine View.read_slice_write_of_not_mem _ _ _ _ fun hmem => ?_
    obtain ⟨z, -, hz⟩ := Finset.mem_map.mp hmem
    exact hy z hz
  unfold owns
  iexists _
  isplitr
  · ipureintro; rfl
  · iexact H

end

end Resample
-- ==== Proof.KernelIdeal.Setup.lean ====
/-
  The host's lines around the kernel's call: what the call finds, and that the arguments end as they were.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the core's buffers hold when the kernel is called: the two reshaped arguments have been written. -/
abbrev V0 (c : Dev nD) : Valuation τ sig (Elt F) := StableHlo.after (List.flatten [hostOps0]) (fun b => m (c, b))

/-- The same, at one buffer. -/
abbrev V (c : Dev nD) (b : Ref sig .tc) : Buf (Elt F) ((c : Thread nD τ).loc b) := V0 m c (Proc.devRef .tc b)

/-- The lines before the call allocate nothing. -/
theorem fresh_before : (hostOps0 : List (HloOp τ sig (Elt F))).Forall fun op => op.fresh = ∅ := by
  simp only [List.Forall]; repeat' constructor

/-- Nor do those after it. -/
theorem fresh_after : (hostOps1 : List (HloOp τ sig (Elt F))).Forall fun op => op.fresh = ∅ := by
  simp only [List.Forall]; repeat' constructor

set_option maxHeartbeats 800000 in
/-- The program is the lines before the call, the call, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact fresh_before) main_chain

/-- The lines after the call touch the call's arrays and other unscoped buffers only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem after_fresh : ∀ ops ∈ ([hostOps1] : List (List (HloOp τ sig (Elt F)))), ∀ op ∈ ops, op.fresh = ∅ := by
  intro ops hops op hop
  rw [List.mem_singleton] at hops
  subst hops
  exact (List.forall_iff_forall_mem.mp fresh_after) op hop

/-- They write none of the call's arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-- A buffer that the two reshapes before the call do not write is found as launched. -/
theorem V_kept (c : Dev nD) (b : Ref sig .tc) (h : main_v0 ≠ b ∧ main_v1 ≠ b) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact ⟨StableHlo.devRef_ne_of_ne h.1.symm, StableHlo.devRef_ne_of_ne h.2.symm⟩))

/-- A buffer that is none of the call's arrays, and that no line writes, ends as launched. -/
theorem W_kept (dats : (p : Fin _) → (c : Dev nD) → Dat τ (Elt F) Unit ℕ (UR sig nD τ) ℕ (cfgs p) c) (c : Dev nD) (b : Ref sig .tc)
    (h : main_v0 ≠ b ∧ main_v1 ≠ b) (h' : main_v3 ≠ b) (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h'.symm)),
    Pipeline.withArrays_of_ne _ c (V0 m c) _ b hw]
  exact V_kept m c b h

/-- Window `w`'s block at point `t`, of the array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first scratch, whole. -/
abbrev scratch0 : Memref sig .tc .vmem S4x4160x128 .f32 := Memref.whole cc0_scratch0
/-- The second. -/
abbrev scratch1 : Memref sig .tc .vmem S4x4160x128 .f32 := Memref.whole cc0_scratch1

/-- What is kept between points: the scratches at some contents, and the generator's register. -/
theorem kept_eq (c : Dev nD) :
    (Pipeline.ΦA spec0 c : sProp 𝕄)
      = iprop(iprop((∃ d, owns (c : Thread nD τ) scratch0 fullShare d) ∗ (∃ d, owns (c : Thread nD τ) scratch1 fullShare d)) ∗ (∃ r, prngReg c r)) := by
  unfold Pipeline.ΦA; rw [scopedRest0_eq]; simp only [scratch0, scratch1, owns_whole]; try rfl

end Cert.KernelIdeal.Launch
-- ==== Proof.KernelIdeal.Steps.lean ====
/-
  The kernel's body at one grid point, one memory operation at a time.

  The body copies the image block into the first scratch (2048 strided stores), forms for each of the 64 rows a weight
  matrix and a product, copies the products into the second scratch (2048 strided stores) and copies that to the result
  (256 stores). What each buffer holds after so many of its stores is an invariant of the count alone, and each operation
  of the body is one step from counts to counts.
-/
module

public import proofs.«01_k».proof.Proof.Gen.KernelIdeal.Launch
public import proofs.«01_k».proof.Proof.Gen.KernelIdeal.Points
public import proofs.«01_k».proof.Proof.Memory
public import Idealize.ShloMosaic.Lib.Pipeline.Value
public import Idealize.ShloMosaic.Lib.Pointwise

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Resample

variable {F : FTy → Type} [FloatOps F]

local notation "𝕄" => MT nD τ sig Unit (Elt F) ℕ (UR sig nD τ) ℕ

/-! ### The values -/

/-- One row of a matrix of 64 lies inside it. -/
theorem line_inb (hi : ℕ) (hh : hi < 64) : S64x512.Slices ![hi, 0] S1x512 :=
  ⟨rfl, fun a => match a with
    | ⟨0, _⟩ => (by show hi + 1 ≤ 64; omega)
    | ⟨1, _⟩ => (by show 0 + 512 ≤ 512; omega)⟩

section Values
open Shapes1.Facts₀ Shapes5.Facts₀

/-- The image block as a matrix: row `64 * channel + line`, a column per place of the line. -/
def img (x1 : Vec F S1x64x1x64x512 .f32) : FVec F S4096x512 .f32 :=
  shapeCast S4096x512 (shapeCast S64x64x512 x1 shapeCasts_S1x64x1x64x512_S64x64x512) shapeCasts_S64x64x512_S4096x512

/-- The places to sample, a row of them per line: the displaced column where that lies inside the line, else -2. -/
def places (x0 : Vec F S1x1x64x512 .f32) : FVec F S64x512 .f32 :=
  let x := addf (sitofp .f32 (iota .tc S64x512 32 [1] iota_S64x512_d1_w32)) (shapeCast S64x512 x0 shapeCasts_S1x1x64x512_S64x512)
  select (andi (cmpf .oge x (broadcast S64x512 (Scalar.ofBits .f32 0x00000000#32))) (cmpf .ole x (broadcast S64x512 (Scalar.ofBits .f32 0x43FF8000#32))))
    x (broadcast S64x512 (Scalar.ofBits .f32 0xC0000000#32))

/-- The column numbers, down the rows. -/
def columns : FVec F S512x512 .f32 := sitofp .f32 (iota .tc S512x512 32 [0] iota_S512x512_d0_w32)

/-- The weights of one line: of column `r` at sample `w`, one less the distance between them, if under one. -/
def weights (x0 : Vec F S1x1x64x512 .f32) (hi : ℕ) (hh : hi < 64) : FVec F S512x512 .bf16 :=
  subf (broadcast S512x512 (Scalar.ofBits .bf16 0x3F80#16))
    (minimumf (absf (truncf .bf16 (subf columns
      (broadcastTo S512x512 (extractStridedSlice S1x512 ![hi, 0] (places x0)
        (line_inb hi hh)) broadcasts_S1x512_S512x512)) bitsLt_bf16_f32))
      (broadcast S512x512 (Scalar.ofBits .bf16 0x3F80#16)))

/-- What the first scratch, once full, yields from plane `p` at row `row`: for each channel the columns `128 p …` of
    line `row / 65`. -/
def lineAt (x1 : Vec F S1x64x1x64x512 .f32) (p row : ℕ) (hp : p < 4) (hr : row < 4096) : Vec F S1x64x128 .f32 :=
  fun y => img x1 (ix2 ⟨(y 1).val * 64 + row / 65, by have : (y 1).val < 64 := (y 1).isLt; omega⟩
    ⟨p * 128 + (y 2).val, by have : (y 2).val < 128 := (y 2).isLt; omega⟩)

/-- The product for one line: its columns by its weights, a row per channel. -/
def product (x0 : Vec F S1x1x64x512 .f32) (x1 : Vec F S1x64x1x64x512 .f32) (hi : ℕ) (hh : hi < 64) : FVec F S64x512 .f32 :=
  matmul dot_S64x512_S512x512_S64x512_1_0_0_1_n_n none
    (truncf .bf16 (concatenate S64x512 1
      [⟨S64x128, shapeCast S64x128 (lineAt x1 0 (hi * 65) (by omega) (by omega)) shapeCasts_S1x64x128_S64x128⟩,
       ⟨S64x128, shapeCast S64x128 (lineAt x1 1 (hi * 65) (by omega) (by omega)) shapeCasts_S1x64x128_S64x128⟩,
       ⟨S64x128, shapeCast S64x128 (lineAt x1 2 (hi * 65) (by omega) (by omega)) shapeCasts_S1x64x128_S64x128⟩,
       ⟨S64x128, shapeCast S64x128 (lineAt x1 3 (hi * 65) (by omega) (by omega)) shapeCasts_S1x64x128_S64x128⟩]
      concatenates_S64x128_S64x128_S64x128_S64x128_S64x512_d1) bitsLt_bf16_f32)
    (weights x0 hi hh) (constant S64x512 .f32 0x00000000#32)

end Values

/-- What the second scratch, once full, yields from plane `p` at row `65 * channel`: for each line the columns `128 p …`
    of that channel's product. -/
def channelAt (x0 : Vec F S1x1x64x512 .f32) (x1 : Vec F S1x64x1x64x512 .f32) (p row : ℕ) (hp : p < 4) (hr : row < 4160) : Vec F S1x64x128 .f32 :=
  fun y => product x0 x1 (y 1).val (y 1).isLt (ix2 ⟨row / 65, by omega⟩
    ⟨p * 128 + (y 2).val, by have : (y 2).val < 128 := (y 2).isLt; omega⟩)

/-- The block of the result: every channel's product at every line. -/
def blockOut (x0 : Vec F S1x1x64x512 .f32) (x1 : Vec F S1x64x1x64x512 .f32) : Vec F S1x64x1x64x512 .f32 :=
  fun y => product x0 x1 (y 3).val (y 3).isLt (ix2 (y 1) (y 4))

/-! ### What a buffer holds after so many of its stores -/

/-- The first scratch after `n` stores. -/
def Filled1 (x1 : Vec F S1x64x1x64x512 .f32) (n : ℕ) (X : Vec F S4x4160x128 .f32) : Prop :=
  ∀ (y : S4x4160x128.Idx) (z : S4096x512.Idx), (y 1).val % 65 < 64 → ((y 1).val % 65 * 8 + (y 1).val / 520) * 4 + (y 0).val < n →
    (z 0).val = (y 1).val % 65 * 64 + (y 1).val / 65 → (z 1).val = (y 0).val * 128 + (y 2).val → X y = img x1 z

/-- The second scratch after `n` stores. -/
def Filled2 (x0 : Vec F S1x1x64x512 .f32) (x1 : Vec F S1x64x1x64x512 .f32) (n : ℕ) (X : Vec F S4x4160x128 .f32) : Prop :=
  ∀ (y : S4x4160x128.Idx) (z : S64x512.Idx) (hi : ℕ) (hh : hi < 64), hi = (y 1).val % 65 → (hi * 8 + (y 1).val / 520) * 4 + (y 0).val < n →
    (z 0).val = (y 1).val / 65 → (z 1).val = (y 0).val * 128 + (y 2).val → X y = product x0 x1 hi hh z

/-- The result's block after `n` stores. -/
def FilledOut (x0 : Vec F S1x1x64x512 .f32) (x1 : Vec F S1x64x1x64x512 .f32) (n : ℕ) (X : Vec F S1x64x1x64x512 .f32) : Prop :=
  ∀ y : S1x64x1x64x512.Idx, (y 1).val * 4 + (y 4).val / 128 < n → X y = blockOut x0 x1 y

/-! ### Steps -/

section
variable (c : Dev nD) (E : Set ℕ)
variable (arg2 : Memref sig .tc .vmem S1x1x64x512 .f32) (arg3 : Memref sig .tc .vmem S1x64x1x64x512 .f32)
  (arg4 : Memref sig .tc .vmem S1x64x1x64x512 .f32) (arg5 arg6 : Memref sig .tc .vmem S4x4160x128 .f32)
  (x0 : Vec F S1x1x64x512 .f32) (x1 : Vec F S1x64x1x64x512 .f32)

/-- The body's buffers after `a` stores into the first scratch, `b` into the second and `d` into the result's block. -/
def State (a b d : ℕ) : sProp 𝕄 :=
  iprop(owns (c : Thread nD τ) arg2 fullShare x0 ∗ owns (c : Thread nD τ) arg3 fullShare x1
    ∗ (∃ X, ⌜Filled1 x1 a X⌝ ∗ owns (c : Thread nD τ) arg5 fullShare X)
    ∗ (∃ X, ⌜Filled2 x0 x1 b X⌝ ∗ owns (c : Thread nD τ) arg6 fullShare X)
    ∗ (∃ X, ⌜FilledOut x0 x1 d X⌝ ∗ owns (c : Thread nD τ) arg4 fullShare X))

/-- The programs of the body. -/
abbrev Run (α : Type) : Type 1 := Prog (TpuEff nD τ sig (Elt F) Λ₀ .tc) α

/-- From the counts `a b d` the program `p` ends with a result and counts of which `Q` holds. -/
def Steps {α : Type} (a b d : ℕ) (p : Run (F := F) α) (Q : α → ℕ → ℕ → ℕ → Prop) : Prop :=
  ∀ K : α → sProp 𝕄,
    iprop(State c arg2 arg3 arg4 arg5 arg6 x0 x1 a b d
        ∗ (∀ v a' b' d', ⌜Q v a' b' d'⌝ -∗ State c arg2 arg3 arg4 arg5 arg6 x0 x1 a' b' d' -∗ K v))
      ⊢ wp frame (wpE (defs₀ (F := F)) Variants.none (c : Thread nD τ) none) E p K

variable {c E arg2 arg3 arg4 arg5 arg6 x0 x1}
variable {α β : Type} {a b d : ℕ} {Q : α → ℕ → ℕ → ℕ → Prop}

/-- A value is its own result. -/
theorem Steps.ret {v : α} (h : Q v a b d) : Steps c E arg2 arg3 arg4 arg5 arg6 x0 x1 a b d (pure v) Q := by
  intro K
  iintro ⟨HS, HK⟩
  iapply (le_wp_ret _ _ _ v K)
  iapply HK $$ %v %a %b %d %h HS

/-- Of a program followed by another: the first runs to where the second may start. -/
theorem Steps.bind {p : Run (F := F) β} {k : β → Run (F := F) α}
    (h : Steps c E arg2 arg3 arg4 arg5 arg6 x0 x1 a b d p
      (fun v a' b' d' => Steps c E arg2 arg3 arg4 arg5 arg6 x0 x1 a' b' d' (k v) Q)) :
    Steps c E arg2 arg3 arg4 arg5 arg6 x0 x1 a b d (p >>= k) Q := by
  intro K
  rw [wp_bind]
  iintro ⟨HS, HK⟩
  iapply (h _)
  isplitl [HS]
  · iexact HS
  iintro %v %a' %b' %d' %hv HS
  iapply (hv K)
  isplitl [HS]
  · iexact HS
  iexact HK

/-- A load of the first scratch: the program goes on with what its invariant allows there. -/
theorem Steps.load5 {r : LoadRect S4x4160x128} {hl : arg5.view.LoadsAt r} {k : (r.shape.Idx → Elt F .f32) → Run (F := F) α}
    (h : ∀ X, Filled1 x1 a X → Steps c E arg2 arg3 arg4 arg5 arg6 x0 x1 a b d (k (fun y => X (r.idx y))) Q) :
    Steps c E arg2 arg3 arg4 arg5 arg6 x0 x1 a b d (Prog.lift (.load arg5 r hl) >>= k) Q := by
  intro K
  show _ ⊢ wp frame _ E (.op (.load arg5 r hl) k) K
  rw [State]
  iintro ⟨⟨H2, H3, ⟨%X5, %h5, H5⟩, ⟨%X6, %h6, H6⟩, ⟨%X4, %h4, H4⟩⟩, HK⟩
  iapply (load_owned Variants.none (c : Thread nD τ) none E X5)
  isplitl [H5]
  · iexact H5
  iintro H5
  iapply (h X5 h5 K)
  isplitr [HK]
  · rw [State]
    isplitl [H2]
    · iexact H2
    isplitl [H3]
    · iexact H3
    isplitl [H5]
    · iexists X5
      isplitr
      · ipureintro; exact h5
      · iexact H5
    isplitl [H6]
    · iexists X6
      isplitr
      · ipureintro; exact h6
      · iexact H6
    iexists X4
    isplitr
    · ipureintro; exact h4
    · iexact H4
  · iexact HK

/-- A load of the first scratch whose value nothing uses. -/
theorem Steps.skip5 {r : LoadRect S4x4160x128} {hl : arg5.view.LoadsAt r} {k : (r.shape.Idx → Elt F .f32) → Run (F := F) α}
    (h : ∀ v, Steps c E arg2 arg3 arg4 arg5 arg6 x0 x1 a b d (k v) Q) : Steps c E arg2 arg3 arg4 arg5 arg6 x0 x1 a b d (Prog.lift (.load arg5 r hl) >>= k) Q :=
  .load5 fun _ _ => h _

/-- A store into the first scratch that takes its invariant from one count to another. -/
theorem Steps.store5 {r : Rect S4x4160x128} {w : r.shape.Idx → Elt F .f32} {hx : (arg5.access r).Stores Finset.univ}
    {hm : (Finset.univ : Finset r.shape.Idx) = Finset.univ ∨ ∀ a, r.stride a = 1} {k : PUnit → Run (F := F) α} {a' : ℕ}
    (hw : ∀ X Y : Vec F S4x4160x128 .f32, Filled1 x1 a X → (∀ z, Y (r.emb z) = w z) → (∀ y, (∀ z, r.emb z ≠ y) → Y y = X y) → Filled1 x1 a' Y)
    (h : Steps c E arg2 arg3 arg4 arg5 arg6 x0 x1 a' b d (k ⟨⟩) Q) :
    Steps c E arg2 arg3 arg4 arg5 arg6 x0 x1 a b d (Prog.lift (.store arg5 r w Finset.univ hx hm) >>= k) Q := by
  intro K
  show _ ⊢ wp frame _ E (.op (.store arg5 r w Finset.univ hx hm) k) K
  rw [State]
  iintro ⟨⟨H2, H3, ⟨%X5, %h5, H5⟩, ⟨%X6, %h6, H6⟩, ⟨%X4, %h4, H4⟩⟩, HK⟩
  iapply (store_owned Variants.none (c : Thread nD τ) none E X5)
  isplitl [H5]
  · iexact H5
  iintro %Y %hY H5
  iapply (h K)
  isplitr [HK]
  · rw [State]
    isplitl [H2]
    · iexact H2
    isplitl [H3]
    · iexact H3
    isplitl [H5]
    · iexists Y
      isplitr
      · ipureintro; exact (hw X5 Y h5 hY.1 hY.2)
      · iexact H5
    isplitl [H6]
    · iexists X6
      isplitr
      · ipureintro; exact h6
      · iexact H6
    iexists X4
    isplitr
    · ipureintro; exact h4
    · iexact H4
  · iexact HK

/-- A load of the second scratch: the program goes on with what its invariant allows there. -/
theorem Steps.load6 {r : LoadRect S4x4160x128} {hl : arg6.view.LoadsAt r} {k : (r.shape.Idx → Elt F .f32) → Run (F := F) α}
    (h : ∀ X, Filled2 x0 x1 b X → Steps c E arg2 arg3 arg4 arg5 arg6 x0 x1 a b d (k (fun y => X (r.idx y))) Q) :
    Steps c E arg2 arg3 arg4 arg5 arg6 x0 x1 a b d (Prog.lift (.load arg6 r hl) >>= k) Q := by
  intro K
  show _ ⊢ wp frame _ E (.op (.load arg6 r hl) k) K
  rw [State]
  iintro ⟨⟨H2, H3, ⟨%X5, %h5, H5⟩, ⟨%X6, %h6, H6⟩, ⟨%X4, %h4, H4⟩⟩, HK⟩
  iapply (load_owned Variants.none (c : Thread nD τ) none E X6)
  isplitl [H6]
  · iexact H6
  iintro H6
  iapply (h X6 h6 K)
  isplitr [HK]
  · rw [State]
    isplitl [H2]
    · iexact H2
    isplitl [H3]
    · iexact H3
    isplitl [H5]
    · iexists X5
      isplitr
      · ipureintro; exact h5
      · iexact H5
    isplitl [H6]
    · iexists X6
      isplitr
      · ipureintro; exact h6
      · iexact H6
    iexists X4
    isplitr
    · ipureintro; exact h4
    · iexact H4
  · iexact HK

/-- A load of the second scratch whose value nothing uses. -/
theorem Steps.skip6 {r : LoadRect S4x4160x128} {hl : arg6.view.LoadsAt r} {k : (r.shape.Idx → Elt F .f32) → Run (F := F) α}
    (h : ∀ v, Steps c E arg2 arg3 arg4 arg5 arg6 x0 x1 a b d (k v) Q) : Steps c E arg2 arg3 arg4 arg5 arg6 x0 x1 a b d (Prog.lift (.load arg6 r hl) >>= k) Q :=
  .load6 fun _ _ => h _

/-- A store into the second scratch that takes its invariant from one count to another. -/
theorem Steps.store6 {r : Rect S4x4160x128} {w : r.shape.Idx → Elt F .f32} {hx : (arg6.access r).Stores Finset.univ}
    {hm : (Finset.univ : Finset r.shape.Idx) = Finset.univ ∨ ∀ a, r.stride a = 1} {k : PUnit → Run (F := F) α} {b' : ℕ}
    (hw : ∀ X Y : Vec F S4x4160x128 .f32, Filled2 x0 x1 b X → (∀ z, Y (r.emb z) = w z) → (∀ y, (∀ z, r.emb z ≠ y) → Y y = X y) → Filled2 x0 x1 b' Y)
    (h : Steps c E arg2 arg3 arg4 arg5 arg6 x0 x1 a b' d (k ⟨⟩) Q) :
    Steps c E arg2 arg3 arg4 arg5 arg6 x0 x1 a b d (Prog.lift (.store arg6 r w Finset.univ hx hm) >>= k) Q := by
  intro K
  show _ ⊢ wp frame _ E (.op (.store arg6 r w Finset.univ hx hm) k) K
  rw [State]
  iintro ⟨⟨H2, H3, ⟨%X5, %h5, H5⟩, ⟨%X6, %h6, H6⟩, ⟨%X4, %h4, H4⟩⟩, HK⟩
  iapply (store_owned Variants.none (c : Thread nD τ) none E X6)
  isplitl [H6]
  · iexact H6
  iintro %Y %hY H6
  iapply (h K)
  isplitr [HK]
  · rw [State]
    isplitl [H2]
    · iexact H2
    isplitl [H3]
    · iexact H3
    isplitl [H5]
    · iexists X5
      isplitr
      · ipureintro; exact h5
      · iexact H5
    isplitl [H6]
    · iexists Y
      isplitr
      · ipureintro; exact (hw X6 Y h6 hY.1 hY.2)
      · iexact H6
    iexists X4
    isplitr
    · ipureintro; exact h4
    · iexact H4
  · iexact HK

/-- A load of the result's block: the program goes on with what its invariant allows there. -/
theorem Steps.load4 {r : LoadRect S1x64x1x64x512} {hl : arg4.view.LoadsAt r} {k : (r.shape.Idx → Elt F .f32) → Run (F := F) α}
    (h : ∀ X, FilledOut x0 x1 d X → Steps c E arg2 arg3 arg4 arg5 arg6 x0 x1 a b d (k (fun y => X (r.idx y))) Q) :
    Steps c E arg2 arg3 arg4 arg5 arg6 x0 x1 a b d (Prog.lift (.load arg4 r hl) >>= k) Q := by
  intro K
  show _ ⊢ wp frame _ E (.op (.load arg4 r hl) k) K
  rw [State]
  iintro ⟨⟨H2, H3, ⟨%X5, %h5, H5⟩, ⟨%X6, %h6, H6⟩, ⟨%X4, %h4, H4⟩⟩, HK⟩
  iapply (load_owned Variants.none (c : Thread nD τ) none E X4)
  isplitl [H4]
  · iexact H4
  iintro H4
  iapply (h X4 h4 K)
  isplitr [HK]
  · rw [State]
    isplitl [H2]
    · iexact H2
    isplitl [H3]
    · iexact H3
    isplitl [H5]
    · iexists X5
      isplitr
      · ipureintro; exact h5
      · iexact H5
    isplitl [H6]
    · iexists X6
      isplitr
      · ipureintro; exact h6
      · iexact H6
    iexists X4
    isplitr
    · ipureintro; exact h4
    · iexact H4
  · iexact HK

/-- A load of the result's block whose value nothing uses. -/
theorem Steps.skip4 {r : LoadRect S1x64x1x64x512} {hl : arg4.view.LoadsAt r} {k : (r.shape.Idx → Elt F .f32) → Run (F := F) α}
    (h : ∀ v, Steps c E arg2 arg3 arg4 arg5 arg6 x0 x1 a b d (k v) Q) : Steps c E arg2 arg3 arg4 arg5 arg6 x0 x1 a b d (Prog.lift (.load arg4 r hl) >>= k) Q :=
  .load4 fun _ _ => h _

/-- A store into the result's block that takes its invariant from one count to another. -/
theorem Steps.store4 {r : Rect S1x64x1x64x512} {w : r.shape.Idx → Elt F .f32} {hx : (arg4.access r).Stores Finset.univ}
    {hm : (Finset.univ : Finset r.shape.Idx) = Finset.univ ∨ ∀ a, r.stride a = 1} {k : PUnit → Run (F := F) α} {d' : ℕ}
    (hw : ∀ X Y : Vec F S1x64x1x64x512 .f32, FilledOut x0 x1 d X → (∀ z, Y (r.emb z) = w z) → (∀ y, (∀ z, r.emb z ≠ y) → Y y = X y) → FilledOut x0 x1 d' Y)
    (h : Steps c E arg2 arg3 arg4 arg5 arg6 x0 x1 a b d' (k ⟨⟩) Q) :
    Steps c E arg2 arg3 arg4 arg5 arg6 x0 x1 a b d (Prog.lift (.store arg4 r w Finset.univ hx hm) >>= k) Q := by
  intro K
  show _ ⊢ wp frame _ E (.op (.store arg4 r w Finset.univ hx hm) k) K
  rw [State]
  iintro ⟨⟨H2, H3, ⟨%X5, %h5, H5⟩, ⟨%X6, %h6, H6⟩, ⟨%X4, %h4, H4⟩⟩, HK⟩
  iapply (store_owned Variants.none (c : Thread nD τ) none E X4)
  isplitl [H4]
  · iexact H4
  iintro %Y %hY H4
  iapply (h K)
  isplitr [HK]
  · rw [State]
    isplitl [H2]
    · iexact H2
    isplitl [H3]
    · iexact H3
    isplitl [H5]
    · iexists X5
      isplitr
      · ipureintro; exact h5
      · iexact H5
    isplitl [H6]
    · iexists X6
      isplitr
      · ipureintro; exact h6
      · iexact H6
    iexists Y
    isplitr
    · ipureintro; exact (hw X4 Y h4 hY.1 hY.2)
    · iexact H4
  · iexact HK

/-- The load of the whole displacements. -/
theorem Steps.read2 {off : Fin S1x1x64x512.rank → ℕ} {inb : ∀ a, off a + S1x1x64x512.size a ≤ S1x1x64x512.size a}
    {hl : arg2.view.LoadsAt (Rect.unit (s := S1x1x64x512) off S1x1x64x512.size inb).toLoadRect}
    {k : ((Rect.unit (s := S1x1x64x512) off S1x1x64x512.size inb).toLoadRect.shape.Idx → Elt F .f32) → Run (F := F) α} (h : Steps c E arg2 arg3 arg4 arg5 arg6 x0 x1 a b d (k x0) Q) :
    Steps c E arg2 arg3 arg4 arg5 arg6 x0 x1 a b d (Prog.lift (.load arg2 (Rect.unit (s := S1x1x64x512) off S1x1x64x512.size inb).toLoadRect hl) >>= k) Q := by
  intro K
  show _ ⊢ wp frame _ E (.op (.load arg2 _ hl) k) K
  rw [State]
  iintro ⟨⟨H2, H3, ⟨%X5, %h5, H5⟩, ⟨%X6, %h6, H6⟩, ⟨%X4, %h4, H4⟩⟩, HK⟩
  iapply (load_owned Variants.none (c : Thread nD τ) none E x0)
  isplitl [H2]
  · iexact H2
  iintro H2
  have e : (fun y => x0 ((Rect.unit (s := S1x1x64x512) off S1x1x64x512.size inb).toLoadRect.idx y)) = x0 :=
    funext fun y => congrArg x0 (funext fun a => Fin.ext (by
      show off a + 1 * (y a).val = (y a).val
      have := inb a
      omega))
  rw [e]
  iapply (h K)
  isplitr [HK]
  · rw [State]
    isplitl [H2]
    · iexact H2
    isplitl [H3]
    · iexact H3
    isplitl [H5]
    · iexists X5
      isplitr
      · ipureintro; exact h5
      · iexact H5
    isplitl [H6]
    · iexists X6
      isplitr
      · ipureintro; exact h6
      · iexact H6
    iexists X4
    isplitr
    · ipureintro; exact h4
    · iexact H4
  · iexact HK

/-- The load of the whole image block. -/
theorem Steps.read3 {off : Fin S1x64x1x64x512.rank → ℕ} {inb : ∀ a, off a + S1x64x1x64x512.size a ≤ S1x64x1x64x512.size a}
    {hl : arg3.view.LoadsAt (Rect.unit (s := S1x64x1x64x512) off S1x64x1x64x512.size inb).toLoadRect}
    {k : ((Rect.unit (s := S1x64x1x64x512) off S1x64x1x64x512.size inb).toLoadRect.shape.Idx → Elt F .f32) → Run (F := F) α} (h : Steps c E arg2 arg3 arg4 arg5 arg6 x0 x1 a b d (k x1) Q) :
    Steps c E arg2 arg3 arg4 arg5 arg6 x0 x1 a b d (Prog.lift (.load arg3 (Rect.unit (s := S1x64x1x64x512) off S1x64x1x64x512.size inb).toLoadRect hl) >>= k) Q := by
  intro K
  show _ ⊢ wp frame _ E (.op (.load arg3 _ hl) k) K
  rw [State]
  iintro ⟨⟨H2, H3, ⟨%X5, %h5, H5⟩, ⟨%X6, %h6, H6⟩, ⟨%X4, %h4, H4⟩⟩, HK⟩
  iapply (load_owned Variants.none (c : Thread nD τ) none E x1)
  isplitl [H3]
  · iexact H3
  iintro H3
  have e : (fun y => x1 ((Rect.unit (s := S1x64x1x64x512) off S1x64x1x64x512.size inb).toLoadRect.idx y)) = x1 :=
    funext fun y => congrArg x1 (funext fun a => Fin.ext (by
      show off a + 1 * (y a).val = (y a).val
      have := inb a
      omega))
  rw [e]
  iapply (h K)
  isplitr [HK]
  · rw [State]
    isplitl [H2]
    · iexact H2
    isplitl [H3]
    · iexact H3
    isplitl [H5]
    · iexists X5
      isplitr
      · ipureintro; exact h5
      · iexact H5
    isplitl [H6]
    · iexists X6
      isplitr
      · ipureintro; exact h6
      · iexact H6
    iexists X4
    isplitr
    · ipureintro; exact h4
    · iexact H4
  · iexact HK

/-! ### The body's own operations -/

/-- Where the `u`-th row of the store at count `a` lies. -/
theorem place_in {a y u : ℕ} (ha : a < 2048) (hu : u < 8) (h : y = a / 4 % 8 * 520 + a / 32 + 65 * u) :
    y % 65 = a / 32 ∧ y / 65 = a / 4 % 8 * 8 + u ∧ y / 520 = a / 4 % 8 := by
  have hg : a / 4 % 8 < 8 := Nat.mod_lt _ (by decide)
  have hh : a / 32 < 64 := by omega
  generalize a / 4 % 8 = g at *
  generalize a / 32 = t at *
  subst h
  refine ⟨?_, ?_, ?_⟩ <;> omega

/-- A place is written by the store of its own count. -/
theorem place_of {a y p : ℕ} (hy : y < 4160) (hp : p < 4) (hm : y % 65 < 64) (h : (y % 65 * 8 + y / 520) * 4 + p = a) :
    p = a % 4 ∧ y = a / 4 % 8 * 520 + a / 32 + 65 * (y / 65 % 8) := by
  have e : y / 520 = y / 65 / 8 := by rw [Nat.div_div_eq_div_mul]
  have hk : y / 65 < 64 := by omega
  have hy' : y = 65 * (y / 65) + y % 65 := by omega
  rw [e] at h
  generalize y / 65 = k at *
  generalize y % 65 = t at *
  have e1 : a / 32 = t := by omega
  have e2 : a / 4 % 8 = k / 8 := by omega
  have e3 : a % 4 = p := by omega
  rw [e1, e2, e3]
  exact ⟨rfl, by omega⟩

/-- A value is its own result, the counts written anew. -/
theorem Steps.done {v : α} {a' b' d' : ℕ} (ha : a = a') (hb : b = b') (hd : d = d') (h : Q v a' b' d') :
    Steps c E arg2 arg3 arg4 arg5 arg6 x0 x1 a b d (pure v) Q := by
  subst ha hb hd
  exact .ret h

section
variable {p row r q : ℕ}

/-- The places of a strided store: one plane, every 65th row. -/
theorem emb_strided {inb} {hs} (z : S1x8x128.Idx) (y : S4x4160x128.Idx) :
    (⟨(⟨![p, row, 0], S1x8x128.size, ![1, 65, 1], inb⟩ : LoadRect S4x4160x128), hs⟩ : Rect S4x4160x128).emb z = y
      ↔ (y 0).val = p + (z 0).val ∧ (y 1).val = row + 65 * (z 1).val ∧ (y 2).val = (z 2).val := by
  constructor
  · rintro rfl
    exact ⟨by show p + 1 * _ = _; omega, rfl, by show 0 + 1 * _ = _; omega⟩
  · rintro ⟨h0, h1, h2⟩
    funext a
    apply Fin.ext
    match a with
    | ⟨0, _⟩ => show p + 1 * (z 0).val = (y 0).val; omega
    | ⟨1, _⟩ => show row + 65 * (z 1).val = (y 1).val; omega
    | ⟨2, _⟩ => show 0 + 1 * (z 2).val = (y 2).val; omega

/-- The place of a strided store that lies on a given plane and row. -/
def spot (y : S4x4160x128.Idx) : S1x8x128.Idx
  | ⟨0, _⟩ => (⟨0, by decide⟩ : Fin 1)
  | ⟨1, _⟩ => (⟨(y 1).val / 65 % 8, Nat.mod_lt _ (by decide)⟩ : Fin 8)
  | ⟨2, _⟩ => y 2

/-- A place that the store of count `a` does not write has another count. -/
theorem count_ne {a : ℕ} {inb} {hs} (y : S4x4160x128.Idx) (hm : (y 1).val % 65 < 64)
    (hin : ¬ ∃ z, (⟨(⟨![a % 4, a / 4 % 8 * 520 + a / 32, 0], S1x8x128.size, ![1, 65, 1], inb⟩ : LoadRect S4x4160x128), hs⟩ : Rect S4x4160x128).emb z = y) :
    ((y 1).val % 65 * 8 + (y 1).val / 520) * 4 + (y 0).val ≠ a := by
  intro h
  obtain ⟨e0, e1⟩ := place_of (y 1).isLt (y 0).isLt hm h
  exact hin ⟨spot y, (emb_strided _ y).mpr ⟨e0, e1, rfl⟩⟩

/-- Eight rows of a matrix, 128 columns of each, as a block of one plane. -/
theorem rows_apply {R C : ℕ} (v : FVec F ⟨2, ![R, C]⟩ .f32) (h : (⟨2, ![R, C]⟩ : Shape).Slices ![r, q] S8x128) (h' : S8x128.ShapeCasts S1x8x128)
    (z : S1x8x128.Idx) (k : (⟨2, ![R, C]⟩ : Shape).Idx) (h0 : (k 0).val = r + (z 1).val) (h1 : (k 1).val = q + (z 2).val) :
    shapeCast S1x8x128 (extractStridedSlice S8x128 ![r, q] v h) h' z = v k := by
  idx_vars z
  pointwise
  refine congrArg v ?_
  rw [Shape.Idx.norm_def]
  funext a
  apply Fin.ext
  match a with
  | ⟨0, _⟩ => exact h0.symm
  | ⟨1, _⟩ => exact h1.symm

/-- A plane's block, as a block of one channel. -/
theorem plane_apply (v : FVec F S1x64x128 .f32) (h : S1x64x128.ShapeCasts S64x128) (h' : S64x128.ShapeCasts S1x1x1x64x128) (l : Fin 64) (t : Fin 128) :
    shapeCast S1x1x1x64x128 (shapeCast S64x128 v h) h' (ix5 0 0 0 l t) = v (ix3 0 l t) := by
  pointwise

/-- A store of the copy into the first scratch. -/
theorem Steps.put5 {inb} {hs} {hS hc} {hx} {hm} {k : PUnit → Run (F := F) α}
    (hn : p = a % 4 ∧ row = a / 4 % 8 * 520 + a / 32 ∧ r = a / 4 * 8 ∧ q = a % 4 * 128 ∧ a < 2048)
    (h : Steps c E arg2 arg3 arg4 arg5 arg6 x0 x1 (a + 1) b d (k ⟨⟩) Q) :
    Steps c E arg2 arg3 arg4 arg5 arg6 x0 x1 a b d
      (Prog.lift (.store arg5 ⟨(⟨![p, row, 0], S1x8x128.size, ![1, 65, 1], inb⟩ : LoadRect S4x4160x128), hs⟩
        (shapeCast S1x8x128 (extractStridedSlice S8x128 ![r, q] (img x1) hS) hc) Finset.univ hx hm) >>= k) Q := by
  obtain ⟨rfl, rfl, rfl, rfl, ha⟩ := hn
  refine .store5 (fun X Y hX hw hk => ?_) h
  intro y z hy hlt h0 h1
  by_cases hin : ∃ z', (⟨(⟨![a % 4, a / 4 % 8 * 520 + a / 32, 0], S1x8x128.size, ![1, 65, 1], inb⟩ : LoadRect S4x4160x128), hs⟩ : Rect S4x4160x128).emb z' = y
  · obtain ⟨z', e⟩ := hin
    obtain ⟨e0, e1, e2⟩ := (emb_strided z' y).mp e
    rw [← e, hw z']
    have l0 : (z' 0).val < 1 := (z' 0).isLt
    obtain ⟨i1, i2, -⟩ := place_in ha (z' 1).isLt e1
    exact rows_apply _ _ _ z' z (by rw [h0, i1, i2]; omega) (by rw [h1, e0, e2]; omega)
  · have hne := count_ne y hy hin
    rw [hk y fun z' e => hin ⟨z', e⟩]
    exact hX y z hy (by omega) h0 h1

/-- A store of a line's product into the second scratch. -/
theorem Steps.put6 {hh : b / 32 < 64} {inb} {hs} {hS hc} {hx} {hm} {k : PUnit → Run (F := F) α}
    (hn : p = b % 4 ∧ row = b / 4 % 8 * 520 + b / 32 ∧ r = b / 4 % 8 * 8 ∧ q = b % 4 * 128)
    (h : Steps c E arg2 arg3 arg4 arg5 arg6 x0 x1 a (b + 1) d (k ⟨⟩) Q) :
    Steps c E arg2 arg3 arg4 arg5 arg6 x0 x1 a b d
      (Prog.lift (.store arg6 ⟨(⟨![p, row, 0], S1x8x128.size, ![1, 65, 1], inb⟩ : LoadRect S4x4160x128), hs⟩
        (shapeCast S1x8x128 (extractStridedSlice S8x128 ![r, q] (product x0 x1 (b / 32) hh) hS) hc) Finset.univ hx hm) >>= k) Q := by
  obtain ⟨rfl, rfl, rfl, rfl⟩ := hn
  have hb : b < 2048 := by omega
  refine .store6 (fun X Y hX hw hk => ?_) h
  intro y z hi hh' hi' hlt h0 h1
  by_cases hin : ∃ z', (⟨(⟨![b % 4, b / 4 % 8 * 520 + b / 32, 0], S1x8x128.size, ![1, 65, 1], inb⟩ : LoadRect S4x4160x128), hs⟩ : Rect S4x4160x128).emb z' = y
  · obtain ⟨z', e⟩ := hin
    obtain ⟨e0, e1, e2⟩ := (emb_strided z' y).mp e
    rw [← e, hw z']
    have l0 : (z' 0).val < 1 := (z' 0).isLt
    obtain ⟨i1, i2, -⟩ := place_in hb (z' 1).isLt e1
    obtain rfl : hi = b / 32 := by rw [hi', i1]
    exact rows_apply _ _ _ z' z (by rw [h0, i2]) (by rw [h1, e0, e2]; omega)
  · have hne := count_ne y (hi' ▸ hh') hin
    rw [hk y fun z' e => hin ⟨z', e⟩]
    rw [← hi'] at hne
    exact hX y z hi hh' hi' (by omega) h0 h1

/-- A store of a channel's lines into the result. -/
theorem Steps.put4 {ch row : ℕ} {hp : p < 4} {hr : row < 4160} {inb} {hc hc'} {hx} {hm} {k : PUnit → Run (F := F) α}
    (hn : p = d % 4 ∧ ch = d / 4 ∧ row = d / 4 * 65 ∧ q = d % 4 * 128)
    (h : Steps c E arg2 arg3 arg4 arg5 arg6 x0 x1 a b (d + 1) (k ⟨⟩) Q) :
    Steps c E arg2 arg3 arg4 arg5 arg6 x0 x1 a b d
      (Prog.lift (.store arg4 (Rect.unit (s := S1x64x1x64x512) ![0, ch, 0, 0, q] S1x1x1x64x128.size inb)
        (shapeCast S1x1x1x64x128 (shapeCast S64x128 (channelAt x0 x1 p row hp hr) hc) hc') Finset.univ hx hm) >>= k) Q := by
  obtain ⟨rfl, rfl, rfl, rfl⟩ := hn
  refine .store4 (fun X Y hX hw hk => ?_) h
  intro y hlt
  have l0 : (y 0).val < 1 := (y 0).isLt
  have l1 : (y 1).val < 64 := (y 1).isLt
  have l2 : (y 2).val < 1 := (y 2).isLt
  have l3 : (y 3).val < 64 := (y 3).isLt
  have l4 : (y 4).val < 512 := (y 4).isLt
  by_cases he : (y 1).val * 4 + (y 4).val / 128 = d
  · let z : S1x1x1x64x128.Idx := ix5 0 0 0 ⟨(y 3).val, l3⟩ ⟨(y 4).val % 128, Nat.mod_lt _ (by decide)⟩
    have e : (Rect.unit (s := S1x64x1x64x512) ![0, d / 4, 0, 0, d % 4 * 128] S1x1x1x64x128.size inb).emb z = y := by
      funext a
      apply Fin.ext
      match a with
      | ⟨0, _⟩ => show 0 + 1 * 0 = (y 0).val; omega
      | ⟨1, _⟩ => show d / 4 + 1 * 0 = (y 1).val; omega
      | ⟨2, _⟩ => show 0 + 1 * 0 = (y 2).val; omega
      | ⟨3, _⟩ => show 0 + 1 * (y 3).val = (y 3).val; omega
      | ⟨4, _⟩ => show d % 4 * 128 + 1 * ((y 4).val % 128) = (y 4).val; omega
    have hz := hw z
    rw [e, plane_apply] at hz
    rw [hz]
    show product x0 x1 (y 3).val _ _ = product x0 x1 (y 3).val _ _
    refine congrArg (product x0 x1 (y 3).val _) ?_
    funext a
    apply Fin.ext
    match a with
    | ⟨0, _⟩ => show d / 4 * 65 / 65 = (y 1).val; omega
    | ⟨1, _⟩ => show d % 4 * 128 + (y 4).val % 128 = (y 4).val; omega
  · have hout : ∀ z, (Rect.unit (s := S1x64x1x64x512) ![0, d / 4, 0, 0, d % 4 * 128] S1x1x1x64x128.size inb).emb z ≠ y := by
      rintro z rfl
      have z1 : (z 1).val < 1 := (z 1).isLt
      have z4 : (z 4).val < 128 := (z 4).isLt
      apply he
      show (d / 4 + 1 * (z 1).val) * 4 + (d % 4 * 128 + 1 * (z 4).val) / 128 = d
      omega
    rw [hk y hout]
    exact hX y (by omega)

/-- A strided load of the second scratch, whose value nothing uses. -/
theorem Steps.idle6 {inb} {hl} {k : (_ → Elt F .f32) → Run (F := F) α} (h : ∀ v, Steps c E arg2 arg3 arg4 arg5 arg6 x0 x1 a b d (k v) Q) :
    Steps c E arg2 arg3 arg4 arg5 arg6 x0 x1 a b d
      (Prog.lift (.load arg6 (⟨![p, row, 0], S1x8x128.size, ![1, 65, 1], inb⟩ : LoadRect S4x4160x128) hl) >>= k) Q :=
  .skip6 h

/-- The load of a line's columns, once the first scratch is full. -/
theorem Steps.line {hp : p < 4} {hr : row < 4096} {inb} {hl} {k : (_ → Elt F .f32) → Run (F := F) α} (hm : row % 65 = 0)
    (h : Steps c E arg2 arg3 arg4 arg5 arg6 x0 x1 2048 b d (k (lineAt x1 p row hp hr)) Q) :
    Steps c E arg2 arg3 arg4 arg5 arg6 x0 x1 2048 b d
      (Prog.lift (.load arg5 (Rect.unit (s := S4x4160x128) ![p, row, 0] S1x64x128.size inb).toLoadRect hl) >>= k) Q := by
  refine .load5 fun X hX => ?_
  have e : (fun y => X ((Rect.unit (s := S4x4160x128) ![p, row, 0] S1x64x128.size inb).toLoadRect.idx y)) = lineAt x1 p row hp hr := by
    funext y
    have l0 : (y 0).val < 1 := (y 0).isLt
    have l1 : (y 1).val < 64 := (y 1).isLt
    have l2 : (y 2).val < 128 := (y 2).isLt
    have e0 : ((Rect.unit (s := S4x4160x128) ![p, row, 0] S1x64x128.size inb).toLoadRect.idx y 0).val = p := by show p + 1 * (y 0).val = p; omega
    have e1 : ((Rect.unit (s := S4x4160x128) ![p, row, 0] S1x64x128.size inb).toLoadRect.idx y 1).val = row + (y 1).val := by show row + 1 * (y 1).val = _; omega
    have e2 : ((Rect.unit (s := S4x4160x128) ![p, row, 0] S1x64x128.size inb).toLoadRect.idx y 2).val = (y 2).val := by show 0 + 1 * (y 2).val = _; omega
    refine hX _ _ (by rw [e1]; omega) (by rw [e0, e1]; omega) ?_ ?_
    · rw [e1]; show (y 1).val * 64 + row / 65 = _; omega
    · rw [e0, e2]; rfl
  rw [e]; exact h

/-- The load of a channel's lines, once the second scratch is full. -/
theorem Steps.channel {hp : p < 4} {hr : row < 4160} {inb} {hl} {k : (_ → Elt F .f32) → Run (F := F) α} (hm : row % 65 = 0)
    (h : Steps c E arg2 arg3 arg4 arg5 arg6 x0 x1 a 2048 d (k (channelAt x0 x1 p row hp hr)) Q) :
    Steps c E arg2 arg3 arg4 arg5 arg6 x0 x1 a 2048 d
      (Prog.lift (.load arg6 (Rect.unit (s := S4x4160x128) ![p, row, 0] S1x64x128.size inb).toLoadRect hl) >>= k) Q := by
  refine .load6 fun X hX => ?_
  have e : (fun y => X ((Rect.unit (s := S4x4160x128) ![p, row, 0] S1x64x128.size inb).toLoadRect.idx y)) = channelAt x0 x1 p row hp hr := by
    funext y
    have l0 : (y 0).val < 1 := (y 0).isLt
    have l1 : (y 1).val < 64 := (y 1).isLt
    have l2 : (y 2).val < 128 := (y 2).isLt
    have e0 : ((Rect.unit (s := S4x4160x128) ![p, row, 0] S1x64x128.size inb).toLoadRect.idx y 0).val = p := by show p + 1 * (y 0).val = p; omega
    have e1 : ((Rect.unit (s := S4x4160x128) ![p, row, 0] S1x64x128.size inb).toLoadRect.idx y 1).val = row + (y 1).val := by show row + 1 * (y 1).val = _; omega
    have e2 : ((Rect.unit (s := S4x4160x128) ![p, row, 0] S1x64x128.size inb).toLoadRect.idx y 2).val = (y 2).val := by show 0 + 1 * (y 2).val = _; omega
    refine hX _ _ (y 1).val (y 1).isLt (by rw [e1]; omega) (by rw [e0, e1]; omega) ?_ ?_
    · rw [e1]; show row / 65 = _; omega
    · rw [e0, e2]; rfl
  rw [e]; exact h

end

end

end Cert.KernelIdeal.Body
-- ==== Proof.KernelIdeal.CopyA.lean ====
/-
  The body's stores into the first scratch, the first 898.
-/
module

public import proofs.«01_k».proof.Proof.KernelIdeal.Steps

@[expose] public section

set_option maxRecDepth 16384
set_option maxHeartbeats 2000000

noncomputable section

namespace Cert.KernelIdeal.Body

open Idealize.ShloMosaic Idealize.ShloMosaic.TcCoe
open Idealize.SL Idealize.SL.Sem

variable {F : FTy → Type} [FloatOps F]

variable {c : Dev nD} {E : Set ℕ} (i : grid0.Coords)
variable {arg2 : Memref sig .tc .vmem S1x1x64x512 .f32} {arg3 : Memref sig .tc .vmem S1x64x1x64x512 .f32}
  {arg4 : Memref sig .tc .vmem S1x64x1x64x512 .f32} {arg5 arg6 : Memref sig .tc .vmem S4x4160x128 .f32}
  {x0 : Vec F S1x1x64x512 .f32} {x1 : Vec F S1x64x1x64x512 .f32}
  (h2 : arg2.IsWhole) (h3 : arg3.IsWhole) (h4 : arg4.IsWhole) (h5 : arg5.IsWhole) (h6 : arg6.IsWhole)

-- a step is found by its operation alone: the programs' sequencing and the meaning of a step need not be opened to tell two apart
attribute [local irreducible] Prog.bind Prog.lift Prog.instMonad Steps

/-- Part 644 of the body: from 0 stores into the first scratch, 0 into the second and 0 into the result to 448, 0 and
    0, and the values that the later parts use. -/
theorem run644 {Q : (Σ' (_ : FVec F S4096x512 .f32), FVec F S8x128 .f32) → ℕ → ℕ → ℕ → Prop}
    (hQ : Q ⟨img x1, (extractStridedSlice S8x128 ![896, 0] (img x1))⟩ 448 0 0) :
    Steps c E arg2 arg3 arg4 arg5 arg6 x0 x1 0 0 0
      (k0_part644 i arg2 h2 arg3 h3 arg4 h4 arg5 h5 arg6 h6 ) Q := by
  refine .bind ?_
  refine .read3 ?_
  repeat first
    | refine .skip5 fun _ => ?_
    | refine .put5 ⟨rfl, rfl, rfl, rfl, by decide⟩ ?_
    | refine .done (by
        try simp only [Nat.reduceAdd]
        rfl) rfl rfl ?_
    | refine .bind ?_
  exact hQ

/-- Part 645 of the body: from 448 stores into the first scratch, 0 into the second and 0 into the result to 898, 0 and
    0, and the values that the later parts use. -/
theorem run645 {Q : FVec F S8x128 .f32 → ℕ → ℕ → ℕ → Prop}
    (hQ : Q (extractStridedSlice S8x128 ![1792, 256] (img x1)) 898 0 0) :
    Steps c E arg2 arg3 arg4 arg5 arg6 x0 x1 448 0 0
      (k0_part645 i arg2 h2 arg3 h3 arg4 h4 arg5 h5 arg6 h6 (img x1) (extractStridedSlice S8x128 ![896, 0] (img x1))) Q := by
  repeat first
    | refine .skip5 fun _ => ?_
    | refine .put5 ⟨rfl, rfl, rfl, rfl, by decide⟩ ?_
    | refine .done (by
        try simp only [Nat.reduceAdd]
        rfl) rfl rfl ?_
    | refine .bind ?_
  exact hQ

end Cert.KernelIdeal.Body
-- ==== Proof.KernelIdeal.CopyB.lean ====
/-
  The body's stores into the first scratch, up to 1798.
-/
module

public import proofs.«01_k».proof.Proof.KernelIdeal.Steps

@[expose] public section

set_option maxRecDepth 16384
set_option maxHeartbeats 2000000

noncomputable section

namespace Cert.KernelIdeal.Body

open Idealize.ShloMosaic Idealize.ShloMosaic.TcCoe
open Idealize.SL Idealize.SL.Sem

variable {F : FTy → Type} [FloatOps F]

variable {c : Dev nD} {E : Set ℕ} (i : grid0.Coords)
variable {arg2 : Memref sig .tc .vmem S1x1x64x512 .f32} {arg3 : Memref sig .tc .vmem S1x64x1x64x512 .f32}
  {arg4 : Memref sig .tc .vmem S1x64x1x64x512 .f32} {arg5 arg6 : Memref sig .tc .vmem S4x4160x128 .f32}
  {x0 : Vec F S1x1x64x512 .f32} {x1 : Vec F S1x64x1x64x512 .f32}
  (h2 : arg2.IsWhole) (h3 : arg3.IsWhole) (h4 : arg4.IsWhole) (h5 : arg5.IsWhole) (h6 : arg6.IsWhole)

-- a step is found by its operation alone: the programs' sequencing and the meaning of a step need not be opened to tell two apart
attribute [local irreducible] Prog.bind Prog.lift Prog.instMonad Steps

/-- Part 646 of the body: from 898 stores into the first scratch, 0 into the second and 0 into the result to 1348, 0 and
    0, and the values that the later parts use. -/
theorem run646 {Q : FVec F S8x128 .f32 → ℕ → ℕ → ℕ → Prop}
    (hQ : Q (extractStridedSlice S8x128 ![2696, 0] (img x1)) 1348 0 0) :
    Steps c E arg2 arg3 arg4 arg5 arg6 x0 x1 898 0 0
      (k0_part646 i arg2 h2 arg3 h3 arg4 h4 arg5 h5 arg6 h6 (img x1) (extractStridedSlice S8x128 ![1792, 256] (img x1))) Q := by
  repeat first
    | refine .skip5 fun _ => ?_
    | refine .put5 ⟨rfl, rfl, rfl, rfl, by decide⟩ ?_
    | refine .done (by
        try simp only [Nat.reduceAdd]
        rfl) rfl rfl ?_
    | refine .bind ?_
  exact hQ

/-- Part 647 of the body: from 1348 stores into the first scratch, 0 into the second and 0 into the result to 1798, 0 and
    0, and the values that the later parts use. -/
theorem run647 {Q : FVec F S8x128 .f32 → ℕ → ℕ → ℕ → Prop}
    (hQ : Q (extractStridedSlice S8x128 ![3592, 256] (img x1)) 1798 0 0) :
    Steps c E arg2 arg3 arg4 arg5 arg6 x0 x1 1348 0 0
      (k0_part647 i arg2 h2 arg3 h3 arg4 h4 arg5 h5 arg6 h6 (img x1) (extractStridedSlice S8x128 ![2696, 0] (img x1))) Q := by
  repeat first
    | refine .skip5 fun _ => ?_
    | refine .put5 ⟨rfl, rfl, rfl, rfl, by decide⟩ ?_
    | refine .done (by
        try simp only [Nat.reduceAdd]
        rfl) rfl rfl ?_
    | refine .bind ?_
  exact hQ

end Cert.KernelIdeal.Body
-- ==== Proof.KernelIdeal.LinesA.lean ====
/-
  The body's last stores into the first scratch, and its lines' products up to store 569 of the second.
-/
module

public import proofs.«01_k».proof.Proof.KernelIdeal.Steps

@[expose] public section

set_option maxRecDepth 16384
set_option maxHeartbeats 2000000

noncomputable section

namespace Cert.KernelIdeal.Body

open Idealize.ShloMosaic Idealize.ShloMosaic.TcCoe
open Idealize.SL Idealize.SL.Sem

variable {F : FTy → Type} [FloatOps F]

variable {c : Dev nD} {E : Set ℕ} (i : grid0.Coords)
variable {arg2 : Memref sig .tc .vmem S1x1x64x512 .f32} {arg3 : Memref sig .tc .vmem S1x64x1x64x512 .f32}
  {arg4 : Memref sig .tc .vmem S1x64x1x64x512 .f32} {arg5 arg6 : Memref sig .tc .vmem S4x4160x128 .f32}
  {x0 : Vec F S1x1x64x512 .f32} {x1 : Vec F S1x64x1x64x512 .f32}
  (h2 : arg2.IsWhole) (h3 : arg3.IsWhole) (h4 : arg4.IsWhole) (h5 : arg5.IsWhole) (h6 : arg6.IsWhole)

-- a step is found by its operation alone: the programs' sequencing and the meaning of a step need not be opened to tell two apart
attribute [local irreducible] Prog.bind Prog.lift Prog.instMonad Steps

/-- Part 648 of the body: from 1798 stores into the first scratch, 0 into the second and 0 into the result to 2048, 171 and
    0, and the values that the later parts use. -/
theorem run648 {Q : (Σ' (_ : FVec F S64x512 .f32) (_ : FVec F S512x512 .f32) (_ : FVec F S64x512 .f32), FVec F S1x8x128 .f32) → ℕ → ℕ → ℕ → Prop}
    (hQ : Q ⟨places x0, columns (F := F), product x0 x1 5 (by decide), shapeCast S1x8x128 (extractStridedSlice S8x128 ![16, 384] (product x0 x1 5 (by decide)))⟩ 2048 171 0) :
    Steps c E arg2 arg3 arg4 arg5 arg6 x0 x1 1798 0 0
      (k0_part648 i arg2 h2 arg3 h3 arg4 h4 arg5 h5 arg6 h6 (img x1) (extractStridedSlice S8x128 ![3592, 256] (img x1))) Q := by
  repeat first
    | refine .line (hp := by decide) (hr := by decide) rfl ?_
    | refine .skip5 fun _ => ?_
    | refine .put5 ⟨rfl, rfl, rfl, rfl, by decide⟩ ?_
    | refine .read2 ?_
    | refine .idle6 fun _ => ?_
    | refine .put6 (hh := by decide) ⟨rfl, rfl, rfl, rfl⟩ ?_
    | refine .done (by
        try simp only [Nat.reduceAdd]
        rfl) (by
        try simp only [Nat.reduceAdd]
        rfl) rfl ?_
    | refine .bind ?_
  exact hQ

/-- Part 649 of the body: from 2048 stores into the first scratch, 171 into the second and 0 into the result to 2048, 569 and
    0, and the values that the later parts use. -/
theorem run649 {Q : (Σ' (_ : FVec F S64x512 .f32), FVec F S8x128 .f32) → ℕ → ℕ → ℕ → Prop}
    (hQ : Q ⟨product x0 x1 17 (by decide), (extractStridedSlice S8x128 ![48, 128] (product x0 x1 17 (by decide)))⟩ 2048 569 0) :
    Steps c E arg2 arg3 arg4 arg5 arg6 x0 x1 2048 171 0
      (k0_part649 i arg2 h2 arg3 h3 arg4 h4 arg5 h5 arg6 h6 (places x0) (columns (F := F)) (product x0 x1 5 (by decide)) (shapeCast S1x8x128 (extractStridedSlice S8x128 ![16, 384] (product x0 x1 5 (by decide))))) Q := by
  repeat first
    | refine .idle6 fun _ => ?_
    | refine .put6 (hh := by decide) ⟨rfl, rfl, rfl, rfl⟩ ?_
    | refine .line (hp := by decide) (hr := by decide) rfl ?_
    | refine .done rfl (by
        try simp only [Nat.reduceAdd]
        rfl) rfl ?_
    | refine .bind ?_
  exact hQ

end Cert.KernelIdeal.Body
-- ==== Proof.KernelIdeal.LinesB.lean ====
/-
  The body's lines' products, stores 569 to 1360 of the second scratch.
-/
module

public import proofs.«01_k».proof.Proof.KernelIdeal.Steps

@[expose] public section

set_option maxRecDepth 16384
set_option maxHeartbeats 2000000

noncomputable section

namespace Cert.KernelIdeal.Body

open Idealize.ShloMosaic Idealize.ShloMosaic.TcCoe
open Idealize.SL Idealize.SL.Sem

variable {F : FTy → Type} [FloatOps F]

variable {c : Dev nD} {E : Set ℕ} (i : grid0.Coords)
variable {arg2 : Memref sig .tc .vmem S1x1x64x512 .f32} {arg3 : Memref sig .tc .vmem S1x64x1x64x512 .f32}
  {arg4 : Memref sig .tc .vmem S1x64x1x64x512 .f32} {arg5 arg6 : Memref sig .tc .vmem S4x4160x128 .f32}
  {x0 : Vec F S1x1x64x512 .f32} {x1 : Vec F S1x64x1x64x512 .f32}
  (h2 : arg2.IsWhole) (h3 : arg3.IsWhole) (h4 : arg4.IsWhole) (h5 : arg5.IsWhole) (h6 : arg6.IsWhole)

-- a step is found by its operation alone: the programs' sequencing and the meaning of a step need not be opened to tell two apart
attribute [local irreducible] Prog.bind Prog.lift Prog.instMonad Steps

/-- Part 650 of the body: from 2048 stores into the first scratch, 569 into the second and 0 into the result to 2048, 962 and
    0, and the values that the later parts use. -/
theorem run650 {Q : (Σ' (_ : FVec F S64x512 .f32), FVec F S8x128 .f32) → ℕ → ℕ → ℕ → Prop}
    (hQ : Q ⟨product x0 x1 30 (by decide), (extractStridedSlice S8x128 ![0, 256] (product x0 x1 30 (by decide)))⟩ 2048 962 0) :
    Steps c E arg2 arg3 arg4 arg5 arg6 x0 x1 2048 569 0
      (k0_part650 i arg2 h2 arg3 h3 arg4 h4 arg5 h5 arg6 h6 (places x0) (columns (F := F)) (product x0 x1 17 (by decide)) (extractStridedSlice S8x128 ![48, 128] (product x0 x1 17 (by decide)))) Q := by
  repeat first
    | refine .idle6 fun _ => ?_
    | refine .put6 (hh := by decide) ⟨rfl, rfl, rfl, rfl⟩ ?_
    | refine .line (hp := by decide) (hr := by decide) rfl ?_
    | refine .done rfl (by
        try simp only [Nat.reduceAdd]
        rfl) rfl ?_
    | refine .bind ?_
  exact hQ

/-- Part 651 of the body: from 2048 stores into the first scratch, 962 into the second and 0 into the result to 2048, 1360 and
    0, and the values that the later parts use. -/
theorem run651 {Q : FVec F S64x512 .f32 → ℕ → ℕ → ℕ → Prop}
    (hQ : Q (product x0 x1 42 (by decide)) 2048 1360 0) :
    Steps c E arg2 arg3 arg4 arg5 arg6 x0 x1 2048 962 0
      (k0_part651 i arg2 h2 arg3 h3 arg4 h4 arg5 h5 arg6 h6 (places x0) (columns (F := F)) (product x0 x1 30 (by decide)) (extractStridedSlice S8x128 ![0, 256] (product x0 x1 30 (by decide)))) Q := by
  repeat first
    | refine .idle6 fun _ => ?_
    | refine .put6 (hh := by decide) ⟨rfl, rfl, rfl, rfl⟩ ?_
    | refine .line (hp := by decide) (hr := by decide) rfl ?_
    | refine .done rfl (by
        try simp only [Nat.reduceAdd]
        rfl) rfl ?_
    | refine .bind ?_
  exact hQ

end Cert.KernelIdeal.Body
-- ==== Proof.KernelIdeal.LinesC.lean ====
/-
  The body's last lines' products, and the copy of the second scratch to the result.
-/
module

public import proofs.«01_k».proof.Proof.KernelIdeal.Steps

@[expose] public section

set_option maxRecDepth 16384
set_option maxHeartbeats 2000000

noncomputable section

namespace Cert.KernelIdeal.Body

open Idealize.ShloMosaic Idealize.ShloMosaic.TcCoe
open Idealize.SL Idealize.SL.Sem

variable {F : FTy → Type} [FloatOps F]

variable {c : Dev nD} {E : Set ℕ} (i : grid0.Coords)
variable {arg2 : Memref sig .tc .vmem S1x1x64x512 .f32} {arg3 : Memref sig .tc .vmem S1x64x1x64x512 .f32}
  {arg4 : Memref sig .tc .vmem S1x64x1x64x512 .f32} {arg5 arg6 : Memref sig .tc .vmem S4x4160x128 .f32}
  {x0 : Vec F S1x1x64x512 .f32} {x1 : Vec F S1x64x1x64x512 .f32}
  (h2 : arg2.IsWhole) (h3 : arg3.IsWhole) (h4 : arg4.IsWhole) (h5 : arg5.IsWhole) (h6 : arg6.IsWhole)

-- a step is found by its operation alone: the programs' sequencing and the meaning of a step need not be opened to tell two apart
attribute [local irreducible] Prog.bind Prog.lift Prog.instMonad Steps

/-- Part 652 of the body: from 2048 stores into the first scratch, 1360 into the second and 0 into the result to 2048, 1757 and
    0, and the values that the later parts use. -/
theorem run652 {Q : (Σ' (_ : FVec F S64x512 .f32), FVec F S8x128 .f32) → ℕ → ℕ → ℕ → Prop}
    (hQ : Q ⟨product x0 x1 54 (by decide), (extractStridedSlice S8x128 ![56, 128] (product x0 x1 54 (by decide)))⟩ 2048 1757 0) :
    Steps c E arg2 arg3 arg4 arg5 arg6 x0 x1 2048 1360 0
      (k0_part652 i arg2 h2 arg3 h3 arg4 h4 arg5 h5 arg6 h6 (places x0) (columns (F := F)) (product x0 x1 42 (by decide))) Q := by
  repeat first
    | refine .idle6 fun _ => ?_
    | refine .put6 (hh := by decide) ⟨rfl, rfl, rfl, rfl⟩ ?_
    | refine .line (hp := by decide) (hr := by decide) rfl ?_
    | refine .done rfl (by
        try simp only [Nat.reduceAdd]
        rfl) rfl ?_
    | refine .bind ?_
  exact hQ

/-- Part 653 of the body: from 2048 stores into the first scratch, 1757 into the second and 0 into the result to 2048, 2048 and
    68, and the values that the later parts use. -/
theorem run653 {Q : FVec F S64x128 .f32 → ℕ → ℕ → ℕ → Prop}
    (hQ : Q (shapeCast S64x128 (channelAt x0 x1 0 1105 (by decide) (by decide))) 2048 2048 68) :
    Steps c E arg2 arg3 arg4 arg5 arg6 x0 x1 2048 1757 0
      (k0_part653 i arg2 h2 arg3 h3 arg4 h4 arg5 h5 arg6 h6 (places x0) (columns (F := F)) (product x0 x1 54 (by decide)) (extractStridedSlice S8x128 ![56, 128] (product x0 x1 54 (by decide)))) Q := by
  repeat first
    | refine .channel (hp := by decide) (hr := by decide) rfl ?_
    | refine .idle6 fun _ => ?_
    | refine .put6 (hh := by decide) ⟨rfl, rfl, rfl, rfl⟩ ?_
    | refine .line (hp := by decide) (hr := by decide) rfl ?_
    | refine .skip4 fun _ => ?_
    | refine .put4 ⟨rfl, rfl, rfl, rfl⟩ ?_
    | refine .done rfl (by
        try simp only [Nat.reduceAdd]
        rfl) (by
        try simp only [Nat.reduceAdd]
        rfl) ?_
    | refine .bind ?_
  exact hQ

/-- Part 654 of the body: from 2048 stores into the first scratch, 2048 into the second and 68 into the result to 2048, 2048 and
    254, and the values that the later parts use. -/
theorem run654 {Q : PUnit → ℕ → ℕ → ℕ → Prop}
    (hQ : Q ⟨⟩ 2048 2048 254) :
    Steps c E arg2 arg3 arg4 arg5 arg6 x0 x1 2048 2048 68
      (k0_part654 i arg2 h2 arg3 h3 arg4 h4 arg5 h5 arg6 h6 (shapeCast S64x128 (channelAt x0 x1 0 1105 (by decide) (by decide)))) Q := by
  repeat first
    | refine .channel (hp := by decide) (hr := by decide) rfl ?_
    | refine .skip4 fun _ => ?_
    | refine .put4 ⟨rfl, rfl, rfl, rfl⟩ ?_
    | refine .done rfl rfl (by
        try simp only [Nat.reduceAdd]
        rfl) ?_
    | refine .bind ?_
  exact hQ

end Cert.KernelIdeal.Body
-- ==== Proof.KernelIdeal.Body.lean ====
/-
  The kernel's whole body at one grid point: from the two input blocks it leaves `blockOut` in the result's block.
-/
module

public import proofs.«01_k».proof.Proof.KernelIdeal.CopyA
public import proofs.«01_k».proof.Proof.KernelIdeal.CopyB
public import proofs.«01_k».proof.Proof.KernelIdeal.LinesA
public import proofs.«01_k».proof.Proof.KernelIdeal.LinesB
public import proofs.«01_k».proof.Proof.KernelIdeal.LinesC

@[expose] public section

set_option maxRecDepth 16384
set_option maxHeartbeats 2000000

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {E : Set ℕ} (i : grid0.Coords)
variable {arg2 : Memref sig .tc .vmem S1x1x64x512 .f32} {arg3 : Memref sig .tc .vmem S1x64x1x64x512 .f32}
  {arg4 : Memref sig .tc .vmem S1x64x1x64x512 .f32} {arg5 arg6 : Memref sig .tc .vmem S4x4160x128 .f32}
  {x0 : Vec F S1x1x64x512 .f32} {x1 : Vec F S1x64x1x64x512 .f32}
  (h2 : arg2.IsWhole) (h3 : arg3.IsWhole) (h4 : arg4.IsWhole) (h5 : arg5.IsWhole) (h6 : arg6.IsWhole)

section
attribute [local irreducible] Prog.bind Prog.lift Prog.instMonad Steps

/-- The body makes all 2048, 2048 and 256 stores. -/
theorem run_body : Steps c E arg2 arg3 arg4 arg5 arg6 x0 x1 0 0 0
    (cc0__resample_body i arg2 h2 arg3 h3 arg4 h4 arg5 h5 arg6 h6) (fun _ a b d => d = 256) := by
  unfold cc0__resample_body
  refine .bind (run644 i h2 h3 h4 h5 h6 ?_)
  refine .bind (run645 i h2 h3 h4 h5 h6 ?_)
  refine .bind (run646 i h2 h3 h4 h5 h6 ?_)
  refine .bind (run647 i h2 h3 h4 h5 h6 ?_)
  refine .bind (run648 i h2 h3 h4 h5 h6 ?_)
  refine .bind (run649 i h2 h3 h4 h5 h6 ?_)
  refine .bind (run650 i h2 h3 h4 h5 h6 ?_)
  refine .bind (run651 i h2 h3 h4 h5 h6 ?_)
  refine .bind (run652 i h2 h3 h4 h5 h6 ?_)
  refine .bind (run653 i h2 h3 h4 h5 h6 ?_)
  refine .bind (run654 i h2 h3 h4 h5 h6 ?_)
  refine .channel (hp := by decide) (hr := by decide) rfl ?_
  refine .skip4 fun _ => ?_
  refine .put4 ⟨rfl, rfl, rfl, rfl⟩ ?_
  refine .channel (hp := by decide) (hr := by decide) rfl ?_
  refine .skip4 fun _ => ?_
  refine .put4 ⟨rfl, rfl, rfl, rfl⟩ ?_
  exact .ret rfl

end

/-- The body, as the launch calls it: given its blocks and its scratches at any contents, it returns the inputs' blocks
    as they were, `blockOut` of them in the result's, and the scratches at some contents. -/
theorem body_wp (K : PUnit → sProp 𝕄) :
    iprop(owns (c : Thread nD τ) arg2 fullShare x0 ∗ owns (c : Thread nD τ) arg3 fullShare x1
        ∗ (∃ X, owns (c : Thread nD τ) arg4 fullShare X)
        ∗ (∃ X, owns (c : Thread nD τ) arg5 fullShare X) ∗ (∃ X, owns (c : Thread nD τ) arg6 fullShare X)
        ∗ ((owns (c : Thread nD τ) arg2 fullShare x0 ∗ owns (c : Thread nD τ) arg3 fullShare x1
          ∗ owns (c : Thread nD τ) arg4 fullShare (blockOut x0 x1)
          ∗ (∃ X, owns (c : Thread nD τ) arg5 fullShare X) ∗ (∃ X, owns (c : Thread nD τ) arg6 fullShare X)) -∗ K ⟨⟩))
      ⊢ wp frame (wpE (defs₀ (F := F)) Variants.none (c : Thread nD τ) none) E
        (cc0__resample_body i arg2 h2 arg3 h3 arg4 h4 arg5 h5 arg6 h6) K := by
  iintro ⟨H2, H3, ⟨%X4, H4⟩, ⟨%X5, H5⟩, ⟨%X6, H6⟩, HK⟩
  iapply (run_body (c := c) (E := E) (x0 := x0) (x1 := x1) i h2 h3 h4 h5 h6 K)
  isplitl [H2 H3 H4 H5 H6]
  · unfold State
    isplitl [H2]; · iexact H2
    isplitl [H3]; · iexact H3
    isplitl [H5]
    · iexists X5
      isplitr
      · ipureintro; exact fun y z _ h => absurd h (Nat.not_lt_zero _)
      iexact H5
    isplitl [H6]
    · iexists X6
      isplitr
      · ipureintro; exact fun y z hi hh _ h => absurd h (Nat.not_lt_zero _)
      iexact H6
    iexists X4
    isplitr
    · ipureintro; exact fun y hy => absurd hy (Nat.not_lt_zero _)
    iexact H4
  iintro %v %a %b %d %hv HS
  unfold State
  icases HS with ⟨H2, H3, ⟨%Y5, %f5, H5⟩, ⟨%Y6, %f6, H6⟩, ⟨%Y4, %f4, H4⟩⟩
  have e : Y4 = blockOut x0 x1 := by
    funext y
    refine f4 y ?_
    have l1 : (y 1).val < 64 := (y 1).isLt
    have l4 : (y 4).val < 512 := (y 4).isLt
    rw [hv]; omega
  rw [← e]
  iapply HK
  isplitl [H2]; · iexact H2
  isplitl [H3]; · iexact H3
  isplitl [H4]; · iexact H4
  isplitl [H5]
  · iexists Y5; iexact H5
  iexists Y6; iexact H6

end Cert.KernelIdeal.Body
-- ==== Proof.KernelIdeal.Run.lean ====
/-
  The kernel's launch: each grid point turns its two blocks into `blockOut` of them, and the whole program runs to its end.
-/
module

public import proofs.«01_k».proof.Proof.KernelIdeal.Setup
public import proofs.«01_k».proof.Proof.KernelIdeal.Body

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch is run with: the arrays as the call finds them, and what each window's block holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Body.blockOut (iblk m c 0 t) (iblk m c 1 t)
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- The body leaves the displacements' block. -/
theorem after_0 (c : Dev nD) (t : Fin cfg0.N) : (dats m 0 c).after 0 t = iblk m c 0 t := by dsimp only [dats]
/-- The body leaves the image's block. -/
theorem after_1 (c : Dev nD) (t : Fin cfg0.N) : (dats m 0 c).after 1 t = iblk m c 1 t := by dsimp only [dats]
/-- The body writes `blockOut` to the result's block. -/
theorem after_2 (c : Dev nD) (t : Fin cfg0.N) : (dats m 0 c).after 2 t = Body.blockOut (iblk m c 0 t) (iblk m c 1 t) := by dsimp only [dats]

/-- The body finds the displacements' block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The body finds the image's block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The body does so at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, kept_eq]
  iintro ⟨⟨⟨HS0, HS1⟩, Hg⟩, Ho, ⟨%d0, H0⟩, ⟨%d1, H1⟩, ⟨%d2, H2⟩⟩
  iapply (Body.body_wp (c := c) (E := Set.univ) (x0 := iblk m c 0 t) (x1 := iblk m c 1 t) (grid0.coords t) _ _ _ _ _ _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  iexact H2

/-- The launch runs this body at a point. -/
theorem body_row (t : Fin cfg0.N) :
    defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The program runs to its end: the call's arrays hold what the points wrote, the lines after the call have run, and every
    semaphore is back at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-- The program runs to its end, its arguments end as they were, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans
          (W_kept m (dats m) c main_arg0 (by decide) (by decide) (by decide)),
        ((h.1 c).2 main_arg1 (Pipeline.mem_restRefs_of main_arg1 (by decide) (by decide))).trans
          (W_kept m (dats m) c main_arg1 (by decide) (by decide) (by decide))⟩, h.2⟩) (run_main m ρ)

end Cert.KernelIdeal.Launch
-- ==== Proof.Sampling.lean ====
/-
  Resampling one line, as mathematics on extended reals: the sum over all columns, each weighted by its distance from the
  place sampled, is the interpolation between the two columns next to the place.
-/
module

public import Idealize.ShloMosaic.PureOps.Ideal
public import Mathlib.Data.EReal.Operations

@[expose] public section

noncomputable section

namespace Resample

/-- The place that a sample at column `w` with displacement `d` is taken from; -2, which no column is near, where it lies
    outside the line. -/
def place (w : Fin 512) (d : EReal) : EReal :=
  if 0 ≤ ((w.val : ℝ) : EReal) + d ∧ ((w.val : ℝ) : EReal) + d ≤ ((511 : ℝ) : EReal) then ((w.val : ℝ) : EReal) + d else ((-2 : ℝ) : EReal)

/-- The weight of column `k` at the place `p`: one less their distance, if that is under one. -/
def weight (k : Fin 512) (p : EReal) : EReal :=
  1 - min (max (((k.val : ℝ) : EReal) - p) (-(((k.val : ℝ) : EReal) - p))) 1

/-- The sample of a line at column `w` with displacement `d`: the weighted sum of its columns. -/
def sample (line : Fin 512 → EReal) (w : Fin 512) (d : EReal) : EReal := ∑ k : Fin 512, line k * weight k (place w d)

/-- At a real place the weight is the real number that it should be. -/
theorem weight_coe (k : Fin 512) (x : ℝ) : weight k (x : EReal) = ((1 - min |(k.val : ℝ) - x| 1 : ℝ) : EReal) := by
  unfold weight
  rw [← EReal.coe_sub, ← EReal.coe_neg, ← EReal.coe_one, ← EReal.coe_strictMono.monotone.map_max, ← EReal.coe_strictMono.monotone.map_min, ← EReal.coe_sub]
  rfl

/-- A column at distance one or more has no weight. -/
theorem weight_far (k : Fin 512) (x : ℝ) (h : 1 ≤ |(k.val : ℝ) - x|) : weight k (x : EReal) = 0 := by
  rw [weight_coe, min_eq_right h, sub_self, EReal.coe_zero]

/-- Nothing is sampled outside the line. -/
theorem sample_outside (line : Fin 512 → EReal) (w : Fin 512) (d : EReal)
    (h : ¬ (0 ≤ ((w.val : ℝ) : EReal) + d ∧ ((w.val : ℝ) : EReal) + d ≤ ((511 : ℝ) : EReal))) : sample line w d = 0 := by
  unfold sample place
  rw [if_neg h]
  refine Finset.sum_eq_zero fun k _ => ?_
  have hk : (0 : ℝ) ≤ (k.val : ℝ) := Nat.cast_nonneg _
  rw [weight_far k (-2) (by rw [abs_of_nonneg] <;> linarith), mul_zero]

/-- At a place `x` inside the line, `n` the column at or before it and `n'` the next (the last column again after the
    last), the sample interpolates between these two. -/
theorem sample_inside (line : Fin 512 → EReal) (w : Fin 512) (d : EReal) (x : ℝ) (hx : ((w.val : ℝ) : EReal) + d = (x : EReal))
    (h0 : 0 ≤ x) (h1 : x ≤ 511) (n n' : Fin 512) (hn : (n.val : ℤ) = ⌊x⌋) (hn' : n'.val = min (n.val + 1) 511) :
    sample line w d = ((1 - (x - n.val) : ℝ) : EReal) * line n + ((x - n.val : ℝ) : EReal) * line n' := by
  have hp : place w d = (x : EReal) := by
    unfold place
    rw [hx, if_pos ⟨EReal.coe_nonneg.mpr h0, EReal.coe_le_coe_iff.mpr h1⟩]
  have l0 : (n.val : ℝ) ≤ x := by
    have := Int.floor_le x; rw [← hn] at this; exact_mod_cast this
  have l1 : x < (n.val : ℝ) + 1 := by
    have := Int.lt_floor_add_one x; rw [← hn] at this; exact_mod_cast this
  have wn : weight n (x : EReal) = ((1 - (x - n.val) : ℝ) : EReal) := by
    rw [weight_coe, abs_sub_comm, abs_of_nonneg (by linarith), min_eq_left (by linarith)]
  have far : ∀ k : Fin 512, k.val ≠ n.val → k.val ≠ n.val + 1 → line k * weight k (x : EReal) = 0 := by
    intro k a b
    rw [weight_far, mul_zero]
    rcases Nat.lt_or_gt_of_ne a with h | h
    · have : (k.val : ℝ) + 1 ≤ n.val := by exact_mod_cast h
      rw [abs_sub_comm, abs_of_nonneg (by linarith)]; linarith
    · have : (n.val : ℝ) + 2 ≤ k.val := by exact_mod_cast (by omega : n.val + 2 ≤ k.val)
      rw [abs_of_nonneg (by linarith)]; linarith
  unfold sample
  rw [hp]
  by_cases hl : n.val = 511
  · have ex : x = n.val := by rw [hl] at l0 ⊢; push_cast at l0 ⊢; linarith
    rw [Finset.sum_eq_single n (fun k _ hk => far k (fun e => hk (Fin.ext e)) (by omega)) (fun h => absurd (Finset.mem_univ _) h),
      wn, mul_comm, ex, sub_self, EReal.coe_zero, zero_mul, add_zero]
  · have en : n'.val = n.val + 1 := by omega
    have wn' : weight n' (x : EReal) = ((x - n.val : ℝ) : EReal) := by
      rw [weight_coe, en, Nat.cast_add, Nat.cast_one, abs_of_nonneg (by linarith), min_eq_left (by linarith)]
      congr 1; ring
    rw [Finset.sum_eq_add n n' (fun e => by rw [← e] at en; omega)
      (fun k _ hk => far k (fun e => hk.1 (Fin.ext e)) (fun e => hk.2 (Fin.ext (e.trans en.symm))))
      (fun h => absurd (Finset.mem_univ _) h) (fun h => absurd (Finset.mem_univ _) h), wn, wn',
      mul_comm (line n), mul_comm (line n')]

end Resample
-- ==== Proof.Numbers.lean ====
/-
  The few numbers that the programs hold as words or as bit patterns, over the extended reals.
-/
module

public import Idealize.ShloMosaic.PureOps.Ideal

@[expose] public section

noncomputable section

namespace Resample

open Idealize.ShloMosaic

/-- A small number, made a word and read back, is the same number. -/
theorem toReal_ofNat {n : ℕ} (h : n < 512) : (FloatOps.sitofp (F := Ideal) .f32 (BitVec.ofNat 32 n) : EReal) = ((n : ℝ) : EReal) := by
  have e : (BitVec.ofNat 32 n).toInt = n := by
    rw [BitVec.toInt_eq_toNat_of_lt] <;> rw [BitVec.toNat_ofNat, Nat.mod_eq_of_lt] <;> omega
  show (((BitVec.ofNat 32 n).toInt : ℝ) : EReal) = _
  rw [e]; norm_cast

/-- The constant 511. -/
theorem ofBits_511 : Ideal.ofBits .f32 1140817920#32 = ((511 : ℝ) : EReal) := by
  simp [Ideal.ofBits, Ideal.ieee, -EReal.coe_mul]; norm_num

/-- The constant -2. -/
theorem ofBits_neg2 : Ideal.ofBits .f32 3221225472#32 = ((-2 : ℝ) : EReal) := by
  simp [Ideal.ofBits, Ideal.ieee, -EReal.coe_mul]; norm_num

/-- A number on the line, cut off towards zero, is the word of its whole part. -/
theorem fptosi_line {r : ℝ} {n : ℕ} (hn : (n : ℤ) = ⌊r⌋) (h : n < 512) : Ideal.fptosi 32 (r : EReal) = BitVec.ofNat 32 n := by
  have h0 : 0 ≤ r := Int.floor_nonneg.1 (by omega)
  show BitVec.ofInt 32 (max (-(2 ^ 31 : ℕ)) (min ((2 ^ 31 : ℕ) - 1) (if 0 ≤ r then ⌊r⌋ else ⌈r⌉))) = _
  rw [if_pos h0, ← hn, min_eq_right (by norm_num; omega), max_eq_right (by norm_num)]
  exact BitVec.ofInt_natCast 32 n

end Resample
-- ==== Proof.KernelIdeal.Block.lean ====
/-
  What one block of the result holds, over the extended reals: the samples of the image block's lines.
-/
module

public import proofs.«01_k».proof.Proof.KernelIdeal.Steps
public import proofs.«01_k».proof.Proof.Sampling
public import proofs.«01_k».proof.Proof.Numbers
public import Idealize.ShloMosaic.Lib.Pipeline.ValueKit

@[expose] public section

set_option maxRecDepth 16384

noncomputable section

namespace Cert.KernelIdeal.Body

open Idealize.ShloMosaic Idealize.ShloMosaic.TcCoe
open Resample

/-- A choice by the conjunction of two tests. -/
theorem select_both {p q : Prop} [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- A row of the image as a matrix is a line of a channel. -/
theorem img_apply (x1 : Vec Ideal S1x64x1x64x512 .f32) (z : S4096x512.Idx) (ch hi : Fin 64) (k : Fin 512)
    (h0 : (z 0).val = ch.val * 64 + hi.val) (h1 : (z 1).val = k.val) : img x1 z = x1 (ix5 0 ch 0 hi k) := by
  have e : z = ix2 ⟨ch.val * 64 + hi.val, by omega⟩ k := by
    funext a
    apply Fin.ext
    match a with
    | ⟨0, _⟩ => exact h0
    | ⟨1, _⟩ => exact h1
  rw [e]
  pointwise [img]

/-- The places are those of `Resample.place`. -/
theorem places_apply (x0 : Vec Ideal S1x1x64x512 .f32) (hi : Fin 64) (w : Fin 512) :
    places x0 (ix2 hi w) = place w (x0 (ix4 0 0 hi w)) := by
  pointwise [places]
  rw [toReal_ofNat w.isLt]
  rw [ofBits_511, ofBits_neg2]
  exact select_both _ _

/-- The weights are those of `Resample.weight` at these places. -/
theorem weights_apply (x0 : Vec Ideal S1x1x64x512 .f32) (hi : Fin 64) (k w : Fin 512) :
    weights x0 hi.val hi.isLt (ix2 k w) = weight k (place w (x0 (ix4 0 0 hi w))) := by
  pointwise [weights, columns]
  rw [toReal_ofNat k.isLt, places_apply]
  rfl

/-- A line of the first scratch, side by side, is a line of the image. -/
theorem line_apply (x1 : Vec Ideal S1x64x1x64x512 .f32) (p : ℕ) (hp : p < 4) (hi ch : Fin 64) (hr : hi.val * 65 < 4096) (t : Fin 128) (k : Fin 512)
    (hk : k.val = p * 128 + t.val) : lineAt x1 p (hi.val * 65) hp hr (ix3 0 ch t) = x1 (ix5 0 ch 0 hi k) := by
  unfold lineAt
  refine img_apply x1 _ ch hi k ?_ hk.symm
  show ch.val * 64 + hi.val * 65 / 65 = _
  omega

/-- A line's product holds its samples. -/
theorem product_apply (x0 : Vec Ideal S1x1x64x512 .f32) (x1 : Vec Ideal S1x64x1x64x512 .f32) (hi ch : Fin 64) (w : Fin 512) :
    product x0 x1 hi.val hi.isLt (ix2 ch w) = sample (fun k => x1 (ix5 0 ch 0 hi k)) w (x0 (ix4 0 0 hi w)) := by
  pointwise [product]
  unfold sample
  refine Finset.sum_congr rfl fun k _ => ?_
  rw [weights_apply]
  refine congrArg₂ (fun a b : EReal => a * b) ?_ rfl
  have lk : k.val < 512 := k.isLt
  by_cases h0 : k.val < 128
  · rw [dif_pos h0, line_apply x1 0 _ hi ch _ _ k (by show k.val = 0 * 128 + k.val; omega)]
  rw [dif_neg h0]
  by_cases h1 : k.val - 128 < 128
  · rw [dif_pos h1, line_apply x1 1 _ hi ch _ _ k (by show k.val = 1 * 128 + (k.val - 128); omega)]
  rw [dif_neg h1]
  by_cases h2 : k.val - 128 - 128 < 128
  · rw [dif_pos h2, line_apply x1 2 _ hi ch _ _ k (by show k.val = 2 * 128 + (k.val - 128 - 128); omega)]
  rw [dif_neg h2, line_apply x1 3 _ hi ch _ _ k (by show k.val = 3 * 128 + (k.val - 128 - 128 - 128); omega)]

/-- The result's block holds the samples of every line of every channel. -/
theorem blockOut_apply (x0 : Vec Ideal S1x1x64x512 .f32) (x1 : Vec Ideal S1x64x1x64x512 .f32) (ch hi : Fin 64) (w : Fin 512) :
    blockOut x0 x1 (ix5 0 ch 0 hi w) = sample (fun k => x1 (ix5 0 ch 0 hi k)) w (x0 (ix4 0 0 hi w)) :=
  product_apply x0 x1 hi ch w

end Cert.KernelIdeal.Body
-- ==== Proof.KernelIdeal.Value.lean ====
/-
  What the kernel's result array holds, over the extended reals: at every place the sample of its line.
-/
module

public import proofs.«01_k».proof.Proof.KernelIdeal.Run
public import proofs.«01_k».proof.Proof.KernelIdeal.Block
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal.Gen Cert.KernelIdeal.Launch
open Resample

variable (m : (ℓ : Loc nD τ sig) → Buf (Elt Ideal) ℓ)

/-- The windows' blocks: one per batch entry and band of 64 lines. -/
theorem idx : ∀ t : Fin cfg0.N, win0_0.index t = ![(grid0.coords t 0).val, (grid0.coords t 1).val, 0, 0]
    ∧ win0_1.index t = ![(grid0.coords t 0).val, 0, (grid0.coords t 1).val, 0, 0]
    ∧ win0_2.index t = ![(grid0.coords t 0).val, 0, (grid0.coords t 1).val, 0, 0] :=
  (by decide +kernel : ∀ t : Fin grid0.N, _)

/-- The call's result: the samples of the reshaped image's lines at the reshaped displacements. -/
def result (X : FVec Ideal S4x64x4x64x512 .f32) (D : FVec Ideal S4x4x64x512 .f32) : FVec Ideal S4x64x4x64x512 .f32 :=
  fun y => sample (fun k => X (ix5 (y 0) (y 1) (y 2) (y 3) k)) (y 4) (D (ix4 (y 0) (y 2) (y 3) (y 4)))

/-- Equal lines, columns and displacements have equal samples. -/
theorem sample_congr {l l' : Fin 512 → EReal} {w w' : Fin 512} {d d' : EReal} (hl : ∀ k, l k = l' k) (hw : w = w') (hd : d = d') :
    sample l w d = sample l' w' d' := by
  rw [funext hl, hw, hd]

/-- Each point writes its block of it. -/
theorem point (c : Dev nD) (t : Fin cfg0.N) (y : S1x64x1x64x512.Idx) :
    Body.blockOut (iblk m c 0 t) (iblk m c 1 t) y
      = result (V m c main_v0) (V m c main_v1) (((cfg0.win 2).blk t).view.emb y) := by
  idx_vars y
  obtain rfl : y0 = 0 := Subsingleton.elim _ _
  obtain rfl : y2 = 0 := Subsingleton.elim _ _
  rw [Body.blockOut_apply]
  unfold result
  refine sample_congr (fun k => ?_) ?_ ?_
  · blk_ext [iblk, idx t]
  · apply Fin.ext
    blk_simp [idx t]
  · blk_ext [iblk, idx t]

/-- The array after the last point. -/
theorem final (c : Dev nD) : (dats m 0 c).arrAt 2 cfg0.N = result (V m c main_v0) (V m c main_v1) := by
  refine (dats m 0 c).arrAt_eq_of_covers 2 _ (by decide +kernel) fun t _ y => ?_
  blk_simp
  rw [after_2]
  exact point m c t y

end Cert.KernelIdeal.Value
-- ==== Proof.KernelIdeal.Result.lean ====
/-
  What the kernel program's result holds, over the extended reals, as a function of its two arguments.
-/
module

public import proofs.«01_k».proof.Proof.KernelIdeal.Value

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal.Gen Cert.KernelIdeal.Launch
open Resample

variable (m : (ℓ : Loc nD τ sig) → Buf (Elt Ideal) ℓ) (ρ : Dev nD → PrngReg)

/-- The kernel's result: the samples of the image's lines at the displacements. -/
def resampled (X : FVec Ideal S4x64x256x512 .f32) (D : FVec Ideal S4x1x256x512 .f32) : FVec Ideal S4x64x256x512 .f32 :=
  fun y => sample (fun k => X (ix4 (y 0) (y 1) (y 2) k)) (y 3) (D (ix4 (y 0) 0 (y 2) (y 3)))

/-- The last line reshapes the call's result. -/
theorem last_line (c : Dev nD) : Pipeline.afterTail₀ cfgs (dats m) 0 (V0 m) [hostOps1] c main_v3
    = shapeCast S4x64x256x512 (result (V m c main_v0) (V m c main_v1)) (by decide) := by
  unfold Pipeline.afterTail₀
  rw [hostOps1, List.flatten_cons, List.flatten_nil, List.append_nil, StableHlo.after_cons, StableHlo.after_nil, StableHlo.reshape_result]
  have e : Pipeline.withArrays (cfgs 0).spec c (V0 m c) (fun w => (dats m 0 c).arrAt w (cfgs 0).N) (Proc.devRef .tc main_v2)
      = result (V m c main_v0) (V m c main_v1) :=
    (Pipeline.withArrays_arr spec0 launch0.win.arr_inj c (V0 m c) _ 2).trans (final m c)
  rw [e]
  rfl

/-- The call finds the image, its lines in bands of 64, -/
theorem found_image (c : Dev nD) (h : S4x64x256x512.ShapeCasts S4x64x4x64x512) : V m c main_v0
    = shapeCast S4x64x4x64x512 (m ((c : Thread nD τ).loc main_arg0) : FVec Ideal S4x64x256x512 .f32) h := by
  entry_read
  rfl

/-- and the displacements likewise. -/
theorem found_displacements (c : Dev nD) (h : S4x1x256x512.ShapeCasts S4x4x64x512) : V m c main_v1
    = shapeCast S4x4x64x512 (m ((c : Thread nD τ).loc main_arg1) : FVec Ideal S4x1x256x512 .f32) h := by
  entry_read
  rfl

/-- Splitting the lines into bands before the call and joining them after it changes nothing. -/
theorem joined (X : FVec Ideal S4x64x256x512 .f32) (D : FVec Ideal S4x1x256x512 .f32) (h h' h'') :
    shapeCast S4x64x256x512 (result (shapeCast S4x64x4x64x512 X h) (shapeCast S4x4x64x512 D h')) h'' = resampled X D := by
  funext y
  idx_vars y
  unfold resampled
  pointwise [result]

/-- The program's run, without the semaphores. -/
theorem run_arrays : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main m ρ)

/-- The program runs to its end, its result holds the samples, and its arguments end as they were. -/
theorem run : θ_run defs (onTc (τ := τ) (main (F := Ideal))) ⟨m, fun _ => 0, ρ⟩ (fun r => ∀ c : Dev nD,
      r.2.mem ((c.tc : Thread nD τ).loc main_v3)
        = resampled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_arrays m ρ
  · rw [last_line, found_image m c (by decide), found_displacements m c (by decide)]
    exact joined _ _ _ _ _
  · exact W_kept m (dats m) c main_arg0 (by decide) (by decide) (by decide)
  · exact W_kept m (dats m) c main_arg1 (by decide) (by decide) (by decide)

end Cert.KernelIdeal.Value
-- ==== Proof.ReferenceIdeal.Terms.lean ====
/-
  The reference's operations as functions of whole arrays, at exact numbers.

  The names follow the steps of the resampling: the horizontal place each point of the result reads from, whether it lies on the
  image line, the two columns it lies between, the values of those columns, and the weighted sum.
-/
module

public import proofs.«01_k».proof.Proof.Gen.ReferenceIdeal
public import Idealize.ShloMosaic.PureOps.Ideal

@[expose] public section

noncomputable section

namespace Cert.ReferenceIdeal.Value

open Idealize.ShloMosaic Cert.ReferenceIdeal.Facts₀

/-- The place each point reads from: its own column plus the displacement there. -/
def places (D : FVec Ideal S4x1x256x512 .f32) : FVec Ideal S4x256x512 .f32 :=
  addf (broadcastInDim S4x256x512 ![0, 1, 2] bcast_S1x1x512_S4x256x512_0_1_2
    (broadcastInDim S1x1x512 ![2] bcast_S512_S1x1x512_2 (sitofp .f32 (iotaInDim S512 32 0))))
    (shapeCast S4x256x512 D shapeCasts_S4x1x256x512_S4x256x512)

/-- One where the place lies between the first and the last column, zero elsewhere. -/
def inside (P : FVec Ideal S4x256x512 .f32) : FVec Ideal S4x256x512 .f32 :=
  uitofp .f32 (andi (cmpf .oge P (broadcastInDim S4x256x512 ![] bcast_S_S4x256x512 (constant S_ .f32 0x00000000#32)))
    (cmpf .ole P (broadcastInDim S4x256x512 ![] bcast_S_S4x256x512 (constant S_ .f32 0x43FF8000#32))))

/-- A float column moved into the image line and turned into an index. -/
def column (P : FVec Ideal S4x256x512 .f32) : IVec S4x256x512 32 :=
  fptosi 32 (minimumf (broadcastInDim S4x256x512 ![] bcast_S_S4x256x512 (sitofp .f32 (constantI S_ 32 511#32)))
    (maximumf (broadcastInDim S4x256x512 ![] bcast_S_S4x256x512 (sitofp .f32 (constantI S_ 32 0#32))) P))

/-- The column right of a float column. -/
def next (P : FVec Ideal S4x256x512 .f32) : FVec Ideal S4x256x512 .f32 :=
  addf P (broadcastInDim S4x256x512 ![] bcast_S_S4x256x512 (constant S_ .f32 0x3F800000#32))

/-- One minus an array. -/
def rest (P : FVec Ideal S4x256x512 .f32) : FVec Ideal S4x256x512 .f32 :=
  subf (broadcastInDim S4x256x512 ![] bcast_S_S4x256x512 (constant S_ .f32 0x3F800000#32)) P

/-- An array without channels, repeated for every channel. -/
def wide {α : Type} (P : S4x256x512.Idx → α) : S4x64x256x512.Idx → α :=
  broadcastInDim S4x64x256x512 ![0, 1, 2, 3] bcast_S4x1x256x512_S4x64x256x512_0_1_2_3
    (broadcastInDim S4x1x256x512 ![0, 2, 3] bcast_S4x256x512_S4x1x256x512_0_2_3 P)

/-- Indices as looked up: a negative one counts from the end of the line. -/
def wrapped (I : IVec S4x64x256x512 32) : IVec S4x64x256x512x1 32 :=
  shapeCast S4x64x256x512x1
    (select (cmpi .slt I (broadcastInDim S4x64x256x512 ![] bcast_S_S4x64x256x512 (constantI S_ 32 0#32)))
      (addi I (broadcastInDim S4x64x256x512 ![] bcast_S_S4x64x256x512 (constantI S_ 32 512#32))) I)
    shapeCasts_S4x64x256x512_S4x64x256x512x1

/-- Whether an index lies on the line. -/
def onLine (I : IVec S4x64x256x512x1 32) : IVec S4x64x256x512 1 :=
  Host.reduce IntOp.andi
    (andi (cmpi .sge I (broadcastInDim S4x64x256x512x1 ![] bcast_S_S4x64x256x512x1 (constantI S_ 32 0#32)))
      (cmpi .sle I (broadcastInDim S4x64x256x512x1 ![0, 1, 2, 3, 4] bcast_S1x1x1x1x1_S4x64x256x512x1_0_1_2_3_4
        (broadcastInDim S1x1x1x1x1 ![4] bcast_S1_S1x1x1x1x1_4 (constantI S1 32 511#32)))))
    (constantI S_ 1 1#1) reducesTo_S4x64x256x512x1_S4x64x256x512_d4 h_S_

/-- The image looked up along its lines; a point whose index is off the line gets the fill value. -/
def take (X : FVec Ideal S4x64x256x512 .f32) (I : IVec S4x64x256x512 32) : FVec Ideal S4x64x256x512 .f32 :=
  select (onLine (wrapped I))
    (Host.gather gather_S4x64x256x512_S4x64x256x512x1_S4x64x256x512_n_3_012_012_3_4_1111 X (wrapped I))
    (broadcastInDim S4x64x256x512 ![] bcast_S_S4x64x256x512 (constant S_ .f32 0x7FC00000#32))

/-- The weighted sum of the two columns a place lies between, zero where the place is off the line. -/
def blended (X : FVec Ideal S4x64x256x512 .f32) (P : FVec Ideal S4x256x512 .f32) : FVec Ideal S4x64x256x512 .f32 :=
  mulf
    (addf (mulf (wide (rest (subf P (Host.floor P)))) (take X (wide (column (Host.floor P)))))
      (mulf (wide (subf P (Host.floor P))) (take X (wide (column (next (Host.floor P)))))))
    (wide (inside P))

end Cert.ReferenceIdeal.Value
-- ==== Proof.ReferenceIdeal.Run.lean ====
/-
  The reference's run: what its result holds in the end, and that it leaves its arguments alone.
-/
module

public import proofs.«01_k».proof.Proof.ReferenceIdeal.Terms
public import Idealize.ShloMosaic.Lib.Claim
public import Idealize.ShloMosaic.Lib.Pointwise

@[expose] public section

set_option maxRecDepth 16384

noncomputable section

namespace Cert.ReferenceIdeal.Value

open Idealize.ShloMosaic Idealize.ShloMosaic.TcCoe Idealize.SL.Sem

set_option maxHeartbeats 1600000 in
/-- The reference ends with its result at the weighted sum of the two columns, and with its arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36)
          = blended (m ((c.tc : Thread nD τ).loc main_arg0)) (places (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp -implicitDefEqProofs only [StableHlo.TRef.toBuf, StableHlo.TRef.ofBuf, cast_cast, cast_eq]
  simp only [blended, take, onLine, wrapped, wide, rest, next, column, inside, places]
  rfl

/-- The reference runs to its end, its arguments end as they were, and every semaphore is at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.ReferenceIdeal.Value
-- ==== Proof.ReferenceIdeal.Take.lean ====
/-
  The reference's lookup along the lines of the image, where the index lies on the line.
-/
module

public import proofs.«01_k».proof.Proof.ReferenceIdeal.Terms
public import Idealize.ShloMosaic.Lib.Pointwise
public import Idealize.ShloMosaic.Lib.ReduceAll
public import Idealize.ShloMosaic.Lib.Affine
public import Idealize.ShloMosaic.Lib.ValueIdxCore

@[expose] public section

set_option maxRecDepth 16384

noncomputable section

namespace Cert.ReferenceIdeal.Value

open Idealize.ShloMosaic

/-- A word that is a column of the line has that column as its signed value. -/
theorem toInt_column {n : ℕ} (hn : n < 512) : (BitVec.ofNat 32 n).toInt = n := by
  rw [BitVec.toInt_eq_toNat_of_lt] <;> rw [BitVec.toNat_ofNat, Nat.mod_eq_of_lt] <;> omega

/-- An index that is a column of the line is looked up as it is. -/
theorem wrapped_apply (I : IVec S4x64x256x512 32) (b : Fin 4) (c : Fin 64) (h : Fin 256) (w n : Fin 512)
    (hI : I (ix4 b c h w) = BitVec.ofNat 32 n.val) : wrapped I (ix5 b c h w 0) = BitVec.ofNat 32 n.val := by
  pointwise [wrapped]
  rw [hI]
  have e : IntOp.cmpi .slt (BitVec.ofNat 32 n.val) 0#32 = 0#1 := by
    refine ValueIdx.eq_zero_of_ne_one fun e => ?_
    have := IntOp.cmpi_slt.1 e
    rw [toInt_column n.isLt] at this
    simp at this
    omega
  rw [e]
  rfl

/-- Where every index is a column of the line, every lookup is on the line. -/
theorem onLine_apply (I : IVec S4x64x256x512x1 32) (hI : ∀ i, ∃ n : Fin 512, I i = BitVec.ofNat 32 n.val) (y : S4x64x256x512.Idx) :
    onLine I y = 1#1 := by
  refine Host.reduce_andi_one _ _ _ _ _ rfl fun i => ?_
  obtain ⟨n, e⟩ := hI i
  show IntOp.andi (IntOp.cmpi .sge (I i) 0#32) (IntOp.cmpi .sle (I i) 511#32) = 1#1
  have hn := toInt_column n.isLt
  refine IntOp.andi_eq_one.2 ⟨IntOp.cmpi_sge.2 ?_, IntOp.cmpi_sle.2 ?_⟩
  · rw [e, hn]; simp
  · rw [e, hn]; simp; omega

/-- The lookup's index, read off the index array at the point's own coordinates. -/
theorem gather_apply (X : FVec Ideal S4x64x256x512 .f32) (I : IVec S4x64x256x512x1 32) (b : Fin 4) (c : Fin 64) (h : Fin 256) (w n : Fin 512)
    (hI : I (ix5 b c h w 0) = BitVec.ofNat 32 n.val) :
    Host.gather gather_S4x64x256x512_S4x64x256x512x1_S4x64x256x512_n_3_012_012_3_4_1111 X I (ix4 b c h w) = X (ix4 b c h n) := by
  refine congrArg X (funext fun a => Fin.ext ?_)
  match a with
  | ⟨0, _⟩ => exact (Nat.zero_add _).trans rfl
  | ⟨1, _⟩ => exact (Nat.zero_add _).trans rfl
  | ⟨2, _⟩ => exact (Nat.zero_add _).trans rfl
  | ⟨3, _⟩ =>
    show min (I _).toInt.toNat 511 = n.val
    have : ∀ y, y = ix5 b c h w 0 → min (I y).toInt.toNat 511 = n.val := by
      rintro y rfl
      rw [hI, toInt_column n.isLt]; omega
    refine this _ (funext fun a => Fin.ext ?_)
    match a with
    | ⟨0, _⟩ => rfl
    | ⟨1, _⟩ => rfl
    | ⟨2, _⟩ => rfl
    | ⟨3, _⟩ => rfl
    | ⟨4, _⟩ => rfl

/-- The image looked up at a column of its line, where every index is a column. -/
theorem take_apply (X : FVec Ideal S4x64x256x512 .f32) (I : IVec S4x64x256x512 32) (hI : ∀ i, ∃ n : Fin 512, I i = BitVec.ofNat 32 n.val)
    (b : Fin 4) (c : Fin 64) (h : Fin 256) (w n : Fin 512) (e : I (ix4 b c h w) = BitVec.ofNat 32 n.val) :
    take X I (ix4 b c h w) = X (ix4 b c h n) := by
  have hW : ∀ i, ∃ n : Fin 512, wrapped I i = BitVec.ofNat 32 n.val := by
    intro i
    idx_vars i
    obtain rfl : i4 = 0 := Subsingleton.elim _ _
    obtain ⟨n, e⟩ := hI (ix4 i0 i1 i2 i3)
    exact ⟨n, wrapped_apply I _ _ _ _ n e⟩
  unfold take
  rw [ValueIdx.select_apply, onLine_apply _ hW, ValueIdx.select_one]
  exact gather_apply X (wrapped I) b c h w n (wrapped_apply I b c h w n e)

end Cert.ReferenceIdeal.Value
-- ==== Proof.ReferenceIdeal.Value.lean ====
/-
  What the reference's result holds, over the extended reals: the samples of the image's lines.
-/
module

public import proofs.«01_k».proof.Proof.ReferenceIdeal.Take
public import proofs.«01_k».proof.Proof.Sampling
public import proofs.«01_k».proof.Proof.Numbers

@[expose] public section

set_option maxRecDepth 16384

noncomputable section

namespace Cert.ReferenceIdeal.Value

open Idealize.ShloMosaic
open Resample

/-- The place a point reads from is its column plus its displacement. -/
theorem places_apply (D : FVec Ideal S4x1x256x512 .f32) (b : Fin 4) (h : Fin 256) (w : Fin 512) :
    places D (ix3 b h w) = ((w.val : ℝ) : EReal) + D (ix4 b 0 h w) := by
  pointwise [places]
  rw [toReal_ofNat w.isLt]

/-- An array repeated for every channel is read at the point's own image, row and column. -/
theorem wide_apply {α : Type} (P : S4x256x512.Idx → α) (b : Fin 4) (c : Fin 64) (h : Fin 256) (w : Fin 512) :
    wide P (ix4 b c h w) = P (ix3 b h w) := by
  pointwise [wide]

/-- A float column moved into the line and made an index. -/
theorem column_apply (P : FVec Ideal S4x256x512 .f32) (z : S4x256x512.Idx) :
    column P z = Ideal.fptosi 32 (min ((511 : ℝ) : EReal) (max ((0 : ℝ) : EReal) (P z))) := by
  idx_vars z
  pointwise [column]
  have e0 := toReal_ofNat (n := 0) (by omega)
  have e1 := toReal_ofNat (n := 511) (by omega)
  norm_num at e0 e1
  rw [e0, e1]
  rfl

/-- Whatever the float column, what it is moved to and made is a column of the line. -/
theorem column_on_line (P : FVec Ideal S4x256x512 .f32) (z : S4x256x512.Idx) : ∃ n : Fin 512, column P z = BitVec.ofNat 32 n.val := by
  have key : ∀ p : EReal, ∃ r : ℝ, min ((511 : ℝ) : EReal) (max ((0 : ℝ) : EReal) p) = (r : EReal) ∧ 0 ≤ r ∧ r ≤ 511 := by
    intro p
    induction p with
    | bot => exact ⟨0, by simp, by norm_num, by norm_num⟩
    | top => exact ⟨511, by simp, by norm_num, by norm_num⟩
    | coe x => exact ⟨min 511 (max 0 x), by norm_cast, by simp, by simp⟩
  obtain ⟨r, e, h0, h1⟩ := key (P z)
  have f0 : 0 ≤ ⌊r⌋ := Int.floor_nonneg.2 h0
  have f1 : ⌊r⌋ < 512 := Int.floor_lt.2 (by push_cast; linarith)
  refine ⟨⟨⌊r⌋.toNat, by omega⟩, ?_⟩
  rw [column_apply, e]
  exact fptosi_line (Int.toNat_of_nonneg f0) (by omega)

/-- A float column that is the whole number `k` becomes the index `k`, or the last one if `k` lies beyond. -/
theorem column_nat (P : FVec Ideal S4x256x512 .f32) (z : S4x256x512.Idx) (k : ℕ) (hk : P z = ((k : ℝ) : EReal)) :
    column P z = BitVec.ofNat 32 (min k 511) := by
  have e : min ((511 : ℝ) : EReal) (max ((0 : ℝ) : EReal) ((k : ℝ) : EReal)) = (((min k 511 : ℕ) : ℝ) : EReal) := by
    rw [max_eq_right (by exact_mod_cast Nat.zero_le k)]
    rcases le_total k 511 with hl | hl
    · rw [min_eq_left hl, min_eq_right (by exact_mod_cast hl)]
    · rw [min_eq_right hl, min_eq_left (by exact_mod_cast hl)]
      norm_cast
  rw [column_apply, hk, e]
  exact fptosi_line (Int.floor_natCast _).symm (by omega)

/-- The array of next columns holds each column and one more. -/
theorem next_apply (P : FVec Ideal S4x256x512 .f32) (z : S4x256x512.Idx) : next P z = P z + 1 := by
  idx_vars z
  pointwise [next]

/-- One minus an array holds one minus each element. -/
theorem rest_apply (P : FVec Ideal S4x256x512 .f32) (z : S4x256x512.Idx) : rest P z = 1 - P z := by
  idx_vars z
  pointwise [rest]

/-- The mark of a place is one on the line and zero off it. -/
theorem inside_apply (P : FVec Ideal S4x256x512 .f32) (z : S4x256x512.Idx) :
    inside P z = if 0 ≤ P z ∧ P z ≤ ((511 : ℝ) : EReal) then 1 else 0 := by
  idx_vars z
  pointwise [inside]
  rw [ofBits_511]
  have key : ∀ b : BitVec 1, FloatOps.uitofp (F := Ideal) .f32 b = if b = 1#1 then (1 : EReal) else 0 := by
    intro b
    show (((b.toNat : ℝ)) : EReal) = _
    rcases BitVec.eq_zero_or_eq_one b with rfl | rfl <;> simp
  rw [key]
  have hb : ∀ p : Prop, [Decidable p] → (BitVec.ofBool (decide p) = 1#1 ↔ p) := by
    intro p _
    by_cases hp : p <;> simp [hp]
  simp only [IntOp.andi_eq_one, hb]

/-- The weighted sum, at one point. -/
theorem blended_point (X : FVec Ideal S4x64x256x512 .f32) (P : FVec Ideal S4x256x512 .f32) (b : Fin 4) (c : Fin 64) (h : Fin 256) (w : Fin 512) :
    blended X P (ix4 b c h w)
      = ((1 - (P (ix3 b h w) - Ideal.liftRound Int.floor (P (ix3 b h w)))) * take X (wide (column (Host.floor P))) (ix4 b c h w)
        + (P (ix3 b h w) - Ideal.liftRound Int.floor (P (ix3 b h w))) * take X (wide (column (next (Host.floor P)))) (ix4 b c h w))
        * (if 0 ≤ P (ix3 b h w) ∧ P (ix3 b h w) ≤ ((511 : ℝ) : EReal) then 1 else 0) := by
  pointwise [blended]
  rw [wide_apply, wide_apply, wide_apply, rest_apply, inside_apply]
  rfl

/-- The image looked up at a float column that is the whole number `k`. -/
theorem take_column (X : FVec Ideal S4x64x256x512 .f32) (P : FVec Ideal S4x256x512 .f32) (b : Fin 4) (c : Fin 64) (h : Fin 256) (w n : Fin 512)
    (k : ℕ) (hk : P (ix3 b h w) = ((k : ℝ) : EReal)) (hn : n.val = min k 511) : take X (wide (column P)) (ix4 b c h w) = X (ix4 b c h n) := by
  refine take_apply X _ (fun i => ?_) b c h w n ?_
  · idx_vars i
    rw [wide_apply]
    exact column_on_line P _
  · rw [wide_apply, column_nat P _ k hk, hn]

/-- The reference's result is the sample of the image's line at the point's column and displacement. -/
theorem blended_apply (X : FVec Ideal S4x64x256x512 .f32) (D : FVec Ideal S4x1x256x512 .f32) (b : Fin 4) (c : Fin 64) (h : Fin 256) (w : Fin 512) :
    blended X (places D) (ix4 b c h w) = sample (fun k => X (ix4 b c h k)) w (D (ix4 b 0 h w)) := by
  rw [blended_point, places_apply]
  by_cases hv : 0 ≤ ((w.val : ℝ) : EReal) + D (ix4 b 0 h w) ∧ ((w.val : ℝ) : EReal) + D (ix4 b 0 h w) ≤ ((511 : ℝ) : EReal)
  swap
  · rw [if_neg hv, mul_zero, sample_outside _ _ _ hv]
  rw [if_pos hv, mul_one]
  obtain ⟨x, hx⟩ : ∃ x : ℝ, ((w.val : ℝ) : EReal) + D (ix4 b 0 h w) = (x : EReal) := by
    refine ⟨_, (EReal.coe_toReal ?_ ?_).symm⟩
    · exact ne_top_of_le_ne_top (EReal.coe_ne_top _) hv.2
    · exact ne_bot_of_le_ne_bot EReal.zero_ne_bot hv.1
  have hp : places D (ix3 b h w) = (x : EReal) := (places_apply D b h w).trans hx
  rw [hx] at hv ⊢
  have h0 : 0 ≤ x := by exact_mod_cast hv.1
  have h1 : x ≤ 511 := by exact_mod_cast hv.2
  have f0 : 0 ≤ ⌊x⌋ := Int.floor_nonneg.2 h0
  have f1 : ⌊x⌋ < 512 := Int.floor_lt.2 (by push_cast; linarith)
  obtain ⟨n, hn⟩ : ∃ n : Fin 512, (n.val : ℤ) = ⌊x⌋ := ⟨⟨⌊x⌋.toNat, by omega⟩, Int.toNat_of_nonneg f0⟩
  obtain ⟨n', hn'⟩ : ∃ n' : Fin 512, n'.val = min (n.val + 1) 511 := ⟨⟨min (n.val + 1) 511, by omega⟩, rfl⟩
  have hr : Ideal.liftRound Int.floor (x : EReal) = ((n.val : ℝ) : EReal) := by
    show (((⌊x⌋ : ℤ) : ℝ) : EReal) = _
    rw [← hn, Int.cast_natCast]
  have hf : (Host.floor (places D)) (ix3 b h w) = ((n.val : ℝ) : EReal) := by
    show Ideal.liftRound Int.floor (places D (ix3 b h w)) = _
    rw [hp, hr]
  have hg : next (Host.floor (places D)) (ix3 b h w) = (((n.val + 1 : ℕ) : ℝ) : EReal) := by
    rw [next_apply, hf]
    norm_cast
  rw [take_column X _ b c h w n n.val hf (by omega), take_column X _ b c h w n' (n.val + 1) hg hn', hr,
    sample_inside _ w _ x hx h0 h1 n n' hn hn']
  norm_cast

end Cert.ReferenceIdeal.Value
-- ==== Proof.lean ====
/-
  The five claims, from the modules that prove their parts: that the kernel, the kernel over the extended reals and the
  reference run to their end, that nothing was replaced, and that kernel and reference have equal results.
-/
module

public import proofs.«01_k».proof.Defs
public import proofs.«01_k».proof.Proof.Kernel.Run
public import proofs.«01_k».proof.Proof.KernelIdeal.Run
public import proofs.«01_k».proof.Proof.KernelIdeal.Result
public import proofs.«01_k».proof.Proof.ReferenceIdeal.Run
public import proofs.«01_k».proof.Proof.ReferenceIdeal.Value

@[expose] public section

noncomputable section

namespace Cert.Proof

open Idealize.ShloMosaic Idealize.ShloMosaic.TcCoe Idealize.SL.Sem

/-- The reference's result, as an array, is the kernel's: at every point the sample of the image's line there. -/
theorem equal_results (X : FVec Ideal Cert.ReferenceIdeal.S4x64x256x512 .f32) (D : FVec Ideal Cert.ReferenceIdeal.S4x1x256x512 .f32) :
    Cert.ReferenceIdeal.Value.blended X (Cert.ReferenceIdeal.Value.places D) = Cert.KernelIdeal.Value.resampled X D := by
  funext y
  idx_vars y
  exact Cert.ReferenceIdeal.Value.blended_apply X D y0 y1 y2 y3

/-- Kernel and reference, run from equal arguments over the extended reals, end with equal results. -/
theorem algebraic : Cert.algebraic_KernelIdeal_ReferenceIdeal := by
  intro m g m' g' _ same
  refine ⟨fun c => Cert.KernelIdeal.Value.resampled (m ((c.tc : Thread _ _).loc Cert.KernelIdeal.main_arg0))
    (m ((c.tc : Thread _ _).loc Cert.KernelIdeal.main_arg1)), Cert.KernelIdeal.Value.run m g, ?_⟩
  refine (θ_run _ _ _).mono (fun r h c => ⟨(h c).1.trans ?_, (h c).2⟩) (Cert.ReferenceIdeal.Value.run m' g')
  rw [equal_results, (same c).1, (same c).2]

/-- All five claims. -/
theorem claim : Cert.Claim :=
  ⟨Cert.Kernel.Gen.facts, Cert.KernelIdeal.Gen.facts, Cert.ReferenceIdeal.Gen.facts,
    fun m g _ => Cert.Kernel.Launch.frame m g, fun m g _ => Cert.KernelIdeal.Launch.frame m g,
    fun m g _ => Cert.ReferenceIdeal.Value.frame m g, trivial, algebraic⟩

end Cert.Proof

end
